-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range_KernelIdeal [hPre_finite_in_range_KernelIdeal : Cert.Pre_finite_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range_ReferenceIdeal [hPre_finite_in_range_ReferenceIdeal : Cert.Pre_finite_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_in_range_KernelIdeal [hKernelIdeal : Cert.KernelIdeal.Facts] [hPre_finite_in_range_KernelIdeal : Cert.Pre_finite_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_in_range_ReferenceIdeal [hReferenceIdeal : Cert.ReferenceIdeal.Facts] [hPre_finite_in_range_ReferenceIdeal : Cert.Pre_finite_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_in_range_KernelIdeal [hKernelIdeal : Cert.KernelIdeal.Facts] [hReferenceIdeal : Cert.ReferenceIdeal.Facts] [hPre_finite_in_range_KernelIdeal : Cert.Pre_finite_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![8192, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![8192, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![8192, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_in_range_KernelIdeal : Cert.Pre_finite_in_range_KernelIdeal.Facts) (hPre_finite_in_range_ReferenceIdeal : Cert.Pre_finite_in_range_ReferenceIdeal.Facts),
    quiescent_Kernel (hKernel := hKernel)
    ∧ quiescent_KernelIdeal (hKernelIdeal := hKernelIdeal)
    ∧ quiescent_KernelIdeal_pre_finite_in_range_KernelIdeal (hKernelIdeal := hKernelIdeal) (hPre_finite_in_range_KernelIdeal := hPre_finite_in_range_KernelIdeal)
    ∧ quiescent_ReferenceIdeal (hReferenceIdeal := hReferenceIdeal)
    ∧ quiescent_ReferenceIdeal_pre_finite_in_range_ReferenceIdeal (hReferenceIdeal := hReferenceIdeal) (hPre_finite_in_range_ReferenceIdeal := hPre_finite_in_range_ReferenceIdeal)
    ∧ preserves_Kernel_KernelIdeal
    ∧ algebraic_KernelIdeal_ReferenceIdeal_pre_finite_in_range_KernelIdeal (hKernelIdeal := hKernelIdeal) (hReferenceIdeal := hReferenceIdeal) (hPre_finite_in_range_KernelIdeal := hPre_finite_in_range_KernelIdeal)
-- ==== Pre_finite_in_range_KernelIdeal.lean ====
abbrev S1024x256 : Shape := ⟨2, ![1024, 256]⟩
abbrev S256x32 : Shape := ⟨2, ![256, 32]⟩
abbrev S1024x1 : Shape := ⟨2, ![1024, 1]⟩
abbrev S4x256x512 : Shape := ⟨3, ![4, 256, 512]⟩
abbrev S256x512 : Shape := ⟨2, ![256, 512]⟩
abbrev S_ : Shape := ⟨0, ![]⟩
abbrev S1024x256x1 : Shape := ⟨3, ![1024, 256, 1]⟩
abbrev S1x256x32 : Shape := ⟨3, ![1, 256, 32]⟩
abbrev S1024x256x32 : Shape := ⟨3, ![1024, 256, 32]⟩

class Facts : Prop where
  bcast_S_S1024x256 : S_.BroadcastsInDim S1024x256 (![] : Fin 0 → Fin S1024x256.rank)
  bcast_S_S256x32 : S_.BroadcastsInDim S256x32 (![] : Fin 0 → Fin S256x32.rank)
  bcast_S_S1024x1 : S_.BroadcastsInDim S1024x1 (![] : Fin 0 → Fin S1024x1.rank)
  bcast_S1024x1_S1024x256_0_1 : S1024x1.BroadcastsInDim S1024x256 (![0, 1] : Fin 2 → Fin S1024x256.rank)
  bcast_S1024x256_S1024x256x1_0_1 : S1024x256.BroadcastsInDim S1024x256x1 (![0, 1] : Fin 2 → Fin S1024x256x1.rank)
  bcast_S256x32_S1x256x32_1_2 : S256x32.BroadcastsInDim S1x256x32 (![1, 2] : Fin 2 → Fin S1x256x32.rank)
  bcast_S1024x256x1_S1024x256x32_0_1_2 : S1024x256x1.BroadcastsInDim S1024x256x32 (![0, 1, 2] : Fin 3 → Fin S1024x256x32.rank)
  bcast_S1x256x32_S1024x256x32_0_1_2 : S1x256x32.BroadcastsInDim S1024x256x32 (![0, 1, 2] : Fin 3 → Fin S1024x256x32.rank)

variable [Facts]

def fn {F : FTy → Type} [FloatOps F] (main_arg0 : FVec F S1024x256 .bf16) (main_arg1 : FVec F S256x32 .bf16) (main_arg2 : IVec S1024x1 32) (main_arg3 : FVec F S4x256x512 .bf16) (main_arg4 : FVec F S256x512 .bf16) : IVec S1024x256x32 1 :=
  let main_v0 : FVec F S1024x256 .bf16 := Host.absf main_arg0
  let main_cst : FVec F S_ .bf16 := constant S_ .bf16 0x7F80#16
  let main_v1 : FVec F S1024x256 .bf16 := broadcastInDim S1024x256 ![] bcast_S_S1024x256 main_cst
  let main_v2 : IVec S1024x256 1 := cmpf .olt main_v0 main_v1
  let main_v3 : FVec F S256x32 .bf16 := Host.absf main_arg1
  let main_cst_0 : FVec F S_ .bf16 := constant S_ .bf16 0x7F80#16
  let main_v4 : FVec F S256x32 .bf16 := broadcastInDim S256x32 ![] bcast_S_S256x32 main_cst_0
  let main_v5 : IVec S256x32 1 := cmpf .olt main_v3 main_v4
  let main_c : IVec S_ 32 := constantI S_ 32 0#32
  let main_v6 : IVec S1024x1 32 := broadcastInDim S1024x1 ![] bcast_S_S1024x1 main_c
  let main_v7 : IVec S1024x1 1 := cmpi .sge main_arg2 main_v6
  let main_c_1 : IVec S_ 32 := constantI S_ 32 31#32
  let main_v8 : IVec S1024x1 32 := broadcastInDim S1024x1 ![] bcast_S_S1024x1 main_c_1
  let main_v9 : IVec S1024x1 1 := cmpi .sle main_arg2 main_v8
  let main_v10 : IVec S1024x1 1 := andi main_v7 main_v9
  let main_v11 : IVec S1024x256 1 := broadcastInDim S1024x256 ![0, 1] bcast_S1024x1_S1024x256_0_1 main_v10
  let main_v12 : IVec S1024x256 1 := andi main_v2 main_v11
  let main_v13 : IVec S1024x256x1 1 := broadcastInDim S1024x256x1 ![0, 1] bcast_S1024x256_S1024x256x1_0_1 main_v12
  let main_v14 : IVec S1x256x32 1 := broadcastInDim S1x256x32 ![1, 2] bcast_S256x32_S1x256x32_1_2 main_v5
  let main_v15 : IVec S1024x256x32 1 := broadcastInDim S1024x256x32 ![0, 1, 2] bcast_S1024x256x1_S1024x256x32_0_1_2 main_v13
  let main_v16 : IVec S1024x256x32 1 := broadcastInDim S1024x256x32 ![0, 1, 2] bcast_S1x256x32_S1024x256x32_0_1_2 main_v14
  let main_v17 : IVec S1024x256x32 1 := andi main_v15 main_v16
  main_v17
-- ==== Pre_finite_in_range_ReferenceIdeal.lean ====
abbrev S8192x256 : Shape := ⟨2, ![8192, 256]⟩
abbrev S256x32 : Shape := ⟨2, ![256, 32]⟩
abbrev S8192x1 : Shape := ⟨2, ![8192, 1]⟩
abbrev S32x256x512 : Shape := ⟨3, ![32, 256, 512]⟩
abbrev S256x512 : Shape := ⟨2, ![256, 512]⟩
abbrev S_ : Shape := ⟨0, ![]⟩
abbrev S8192x256x1 : Shape := ⟨3, ![8192, 256, 1]⟩
abbrev S1x256x32 : Shape := ⟨3, ![1, 256, 32]⟩
abbrev S8192x256x32 : Shape := ⟨3, ![8192, 256, 32]⟩

class Facts : Prop where
  bcast_S_S8192x256 : S_.BroadcastsInDim S8192x256 (![] : Fin 0 → Fin S8192x256.rank)
  bcast_S_S256x32 : S_.BroadcastsInDim S256x32 (![] : Fin 0 → Fin S256x32.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S8192x256_S8192x256x1_0_1 : S8192x256.BroadcastsInDim S8192x256x1 (![0, 1] : Fin 2 → Fin S8192x256x1.rank)
  bcast_S256x32_S1x256x32_1_2 : S256x32.BroadcastsInDim S1x256x32 (![1, 2] : Fin 2 → Fin S1x256x32.rank)
  bcast_S8192x256x1_S8192x256x32_0_1_2 : S8192x256x1.BroadcastsInDim S8192x256x32 (![0, 1, 2] : Fin 3 → Fin S8192x256x32.rank)
  bcast_S1x256x32_S8192x256x32_0_1_2 : S1x256x32.BroadcastsInDim S8192x256x32 (![0, 1, 2] : Fin 3 → Fin S8192x256x32.rank)

variable [Facts]

def fn {F : FTy → Type} [FloatOps F] (main_arg0 : FVec F S8192x256 .bf16) (main_arg1 : FVec F S256x32 .bf16) (main_arg2 : IVec S8192x1 32) (main_arg3 : FVec F S32x256x512 .bf16) (main_arg4 : FVec F S256x512 .bf16) : IVec S8192x256x32 1 :=
  let main_v0 : FVec F S8192x256 .bf16 := Host.absf main_arg0
  let main_cst : FVec F S_ .bf16 := constant S_ .bf16 0x7F80#16
  let main_v1 : FVec F S8192x256 .bf16 := broadcastInDim S8192x256 ![] bcast_S_S8192x256 main_cst
  let main_v2 : IVec S8192x256 1 := cmpf .olt main_v0 main_v1
  let main_v3 : FVec F S256x32 .bf16 := Host.absf main_arg1
  let main_cst_0 : FVec F S_ .bf16 := constant S_ .bf16 0x7F80#16
  let main_v4 : FVec F S256x32 .bf16 := broadcastInDim S256x32 ![] bcast_S_S256x32 main_cst_0
  let main_v5 : IVec S256x32 1 := cmpf .olt main_v3 main_v4
  let main_c : IVec S_ 32 := constantI S_ 32 0#32
  let main_v6 : IVec S8192x1 32 := broadcastInDim S8192x1 ![] bcast_S_S8192x1 main_c
  let main_v7 : IVec S8192x1 1 := cmpi .sge main_arg2 main_v6
  let main_c_1 : IVec S_ 32 := constantI S_ 32 31#32
  let main_v8 : IVec S8192x1 32 := broadcastInDim S8192x1 ![] bcast_S_S8192x1 main_c_1
  let main_v9 : IVec S8192x1 1 := cmpi .sle main_arg2 main_v8
  let main_v10 : IVec S8192x1 1 := andi main_v7 main_v9
  let main_v11 : IVec S8192x256 1 := broadcastInDim S8192x256 ![0, 1] bcast_S8192x1_S8192x256_0_1 main_v10
  let main_v12 : IVec S8192x256 1 := andi main_v2 main_v11
  let main_v13 : IVec S8192x256x1 1 := broadcastInDim S8192x256x1 ![0, 1] bcast_S8192x256_S8192x256x1_0_1 main_v12
  let main_v14 : IVec S1x256x32 1 := broadcastInDim S1x256x32 ![1, 2] bcast_S256x32_S1x256x32_1_2 main_v5
  let main_v15 : IVec S8192x256x32 1 := broadcastInDim S8192x256x32 ![0, 1, 2] bcast_S8192x256x1_S8192x256x32_0_1_2 main_v13
  let main_v16 : IVec S8192x256x32 1 := broadcastInDim S8192x256x32 ![0, 1, 2] bcast_S1x256x32_S8192x256x32_0_1_2 main_v14
  let main_v17 : IVec S8192x256x32 1 := andi main_v15 main_v16
  main_v17
-- ==== Kernel.lean ====
abbrev S1024x256 : Shape := ⟨2, ![1024, 256]⟩
abbrev S256x32 : Shape := ⟨2, ![256, 32]⟩
abbrev S1024x1 : Shape := ⟨2, ![1024, 1]⟩
abbrev S4x256x512 : Shape := ⟨3, ![4, 256, 512]⟩
abbrev S256x512 : Shape := ⟨2, ![256, 512]⟩
abbrev S1024x512 : Shape := ⟨2, ![1024, 512]⟩
abbrev S8x4x256x512 : Shape := ⟨4, ![8, 4, 256, 512]⟩
abbrev S10 : Shape := ⟨1, ![10]⟩
abbrev S_ : Shape := ⟨0, ![]⟩
abbrev S1x4x256x512 : Shape := ⟨4, ![1, 4, 256, 512]⟩
abbrev S1 : Shape := ⟨1, ![1]⟩
abbrev S1024x32 : Shape := ⟨2, ![1024, 32]⟩
abbrev S1024 : Shape := ⟨1, ![1024]⟩
abbrev S1024x1024 : Shape := ⟨2, ![1024, 1024]⟩
abbrev S1x2x256x512 : Shape := ⟨4, ![1, 2, 256, 512]⟩
abbrev S2x256x512 : Shape := ⟨3, ![2, 256, 512]⟩
abbrev S512x512 : Shape := ⟨2, ![512, 512]⟩

abbrev nBuf : Space → Nat
  | .hbm => 6
  | .vmem => 7
  | .smem => 0
  | _ => 0

abbrev bufTy : (tb : Table) → Fin (tcTables nBuf tb) → BufTy
  | .hbm, ⟨0, _⟩ => ⟨S1024x256, .bf16⟩
  | .hbm, ⟨1, _⟩ => ⟨S256x32, .bf16⟩
  | .hbm, ⟨2, _⟩ => ⟨S1024x1, .i32⟩
  | .hbm, ⟨3, _⟩ => ⟨S4x256x512, .bf16⟩
  | .hbm, ⟨4, _⟩ => ⟨S256x512, .bf16⟩
  | .hbm, ⟨5, _⟩ => ⟨S1024x512, .f32⟩
  | .local _ .vmem, ⟨0, _⟩ => ⟨S1024x256, .bf16⟩
  | .local _ .vmem, ⟨1, _⟩ => ⟨S256x32, .bf16⟩
  | .local _ .vmem, ⟨2, _⟩ => ⟨S1024x1, .i32⟩
  | .local _ .vmem, ⟨3, _⟩ => ⟨S4x256x512, .bf16⟩
  | .local _ .vmem, ⟨4, _⟩ => ⟨S256x512, .bf16⟩
  | .local _ .vmem, ⟨5, _⟩ => ⟨S1024x512, .f32⟩
  | .local _ .vmem, ⟨6, _⟩ => ⟨S8x4x256x512, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_7 : BitVec 32 := 1#32
  let v17 : BitVec 32 := Scalar.muli v10 c1_i32_7
  let v18 : BitVec 32 := Scalar.addi c0_i32 v17
  v18.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_9 : BitVec 32 := 1#32
  let v19 : BitVec 32 := Scalar.muli v7 c1_i32_9
  let v20 : BitVec 32 := Scalar.addi c0_i32_10 v19
  v20.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_12 : BitVec 32 := 1#32
  let v21 : BitVec 32 := Scalar.muli v12 c1_i32_12
  let v22 : BitVec 32 := Scalar.addi c0_i32_13 v21
  v22.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_25 : BitVec 32 := 1#32
  let v28 : BitVec 32 := Scalar.muli v7 c1_i32_25
  let v29 : BitVec 32 := Scalar.addi c0_i32_26 v28
  v29.toNat
def k0_dev5 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_36 : BitVec 32 := 1#32
  let v38 : BitVec 32 := Scalar.muli v10 c1_i32_36
  let v39 : BitVec 32 := Scalar.addi c0_i32_37 v38
  v39.toNat
def k0_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_47 : BitVec 32 := 1#32
  let v48 : BitVec 32 := Scalar.muli v12 c1_i32_47
  let v49 : BitVec 32 := Scalar.addi c0_i32_48 v48
  v49.toNat
def k0_dev7 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_102 : BitVec 32 := 1#32
  let v135 : BitVec 32 := Scalar.muli v7 c1_i32_102
  let v136 : BitVec 32 := Scalar.addi c0_i32_103 v135
  v136.toNat
def k0_dev8 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_114 : BitVec 32 := 1#32
  let v145 : BitVec 32 := Scalar.muli v12 c1_i32_114
  let v146 : BitVec 32 := Scalar.addi c0_i32_115 v145
  v146.toNat
def k0_dev9 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_138 : BitVec 32 := 1#32
  let v163 : BitVec 32 := Scalar.muli v7 c1_i32_138
  let v164 : BitVec 32 := Scalar.addi c0_i32_139 v163
  v164.toNat
def k0_dev10 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_149 : BitVec 32 := 1#32
  let v173 : BitVec 32 := Scalar.muli v10 c1_i32_149
  let v174 : BitVec 32 := Scalar.addi c0_i32_150 v173
  v174.toNat
def k0_dev11 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_172 : BitVec 32 := 1#32
  let v191 : BitVec 32 := Scalar.muli v12 c1_i32_172
  let v192 : BitVec 32 := Scalar.addi c0_i32_173 v191
  v192.toNat
def k0_dev12 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_246 : BitVec 32 := 1#32
  let v333 : BitVec 32 := Scalar.muli v10 c1_i32_246
  let v334 : BitVec 32 := Scalar.addi c0_i32_247 v333
  v334.toNat
def k0_dev13 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_278 : BitVec 32 := 1#32
  let v371 : BitVec 32 := Scalar.muli v10 c1_i32_278
  let v372 : BitVec 32 := Scalar.addi c0_i32_279 v371
  v372.toNat
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8192x256 : Shape := ⟨2, ![8192, 256]⟩
abbrev S256x32 : Shape := ⟨2, ![256, 32]⟩
abbrev S8192x1 : Shape := ⟨2, ![8192, 1]⟩
abbrev S32x256x512 : Shape := ⟨3, ![32, 256, 512]⟩
abbrev S256x512 : Shape := ⟨2, ![256, 512]⟩
abbrev S8192x32 : Shape := ⟨2, ![8192, 32]⟩
abbrev S_ : Shape := ⟨0, ![]⟩
abbrev S8192 : Shape := ⟨1, ![8192]⟩
abbrev S8192x512 : Shape := ⟨2, ![8192, 512]⟩
abbrev S8192x1x1 : Shape := ⟨3, ![8192, 1, 1]⟩
abbrev S1 : Shape := ⟨1, ![1]⟩
abbrev S1x1x1 : Shape := ⟨3, ![1, 1, 1]⟩
abbrev S8192x256x512 : Shape := ⟨3, ![8192, 256, 512]⟩

abbrev nBuf : Space → Nat
  | .hbm => 58
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x32, .bf16⟩
  | .hbm, ⟨2, _⟩ => ⟨S8192x1, .i32⟩
  | .hbm, ⟨3, _⟩ => ⟨S32x256x512, .bf16⟩
  | .hbm, ⟨4, _⟩ => ⟨S256x512, .bf16⟩
  | .hbm, ⟨5, _⟩ => ⟨S8192x256, .f32⟩
  | .hbm, ⟨6, _⟩ => ⟨S256x32, .f32⟩
  | .hbm, ⟨7, _⟩ => ⟨S8192x32, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x32, .f32⟩
  | .hbm, ⟨12, _⟩ => ⟨S8192x32, .f32⟩
  | .hbm, ⟨13, _⟩ => ⟨S8192x32, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x32, .f32⟩
  | .hbm, ⟨18, _⟩ => ⟨S8192x32, .f32⟩
  | .hbm, ⟨19, _⟩ => ⟨S256x512, .f32⟩
  | .hbm, ⟨20, _⟩ => ⟨S8192x512, .f32⟩
  | .hbm, ⟨21, _⟩ => ⟨S8192, .i32⟩
  | .hbm, ⟨22, _⟩ => ⟨S_, .i32⟩
  | .hbm, ⟨23, _⟩ => ⟨S8192x1, .i32⟩
  | .hbm, ⟨24, _⟩ => ⟨S8192x1, .i1⟩
  | .hbm, ⟨25, _⟩ => ⟨S_, .i32⟩
  | .hbm, ⟨26, _⟩ => ⟨S8192x1, .i32⟩
  | .hbm, ⟨27, _⟩ => ⟨S8192x1, .i32⟩
  | .hbm, ⟨28, _⟩ => ⟨S8192x1, .i32⟩
  | .hbm, ⟨29, _⟩ => ⟨S8192x1x1, .i32⟩
  | .hbm, ⟨30, _⟩ => ⟨S1, .i32⟩
  | .hbm, ⟨31, _⟩ => ⟨S_, .i32⟩
  | .hbm, ⟨32, _⟩ => ⟨S8192x1x1, .i32⟩
  | .hbm, ⟨33, _⟩ => ⟨S8192x1x1, .i1⟩
  | .hbm, ⟨34, _⟩ => ⟨S1x1x1, .i32⟩
  | .hbm, ⟨35, _⟩ => ⟨S8192x1x1, .i32⟩
  | .hbm, ⟨36, _⟩ => ⟨S8192x1x1, .i1⟩
  | .hbm, ⟨37, _⟩ => ⟨S8192x1x1, .i1⟩
  | .hbm, ⟨38, _⟩ => ⟨S_, .i1⟩
  | .hbm, ⟨39, _⟩ => ⟨S8192x1, .i1⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S32x256x512, .f32⟩
  | .hbm, ⟨45, _⟩ => ⟨S_, .i32⟩
  | .hbm, ⟨46, _⟩ => ⟨S8192, .i32⟩
  | .hbm, ⟨47, _⟩ => ⟨S8192, .i1⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S8192, .i32⟩
  | .hbm, ⟨52, _⟩ => ⟨S8192x1, .i32⟩
  | .hbm, ⟨53, _⟩ => ⟨S8192x256x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v15 : Ref sig .tc := ⟨.hbm, 43, rfl⟩
abbrev main_v16 : Ref sig .tc := ⟨.hbm, 44, rfl⟩
abbrev main_c : Ref sig .tc := ⟨.hbm, 45, rfl⟩
abbrev main_v17 : Ref sig .tc := ⟨.hbm, 46, rfl⟩
abbrev main_v18 : Ref sig .tc := ⟨.hbm, 47, rfl⟩
abbrev main_c_1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩

abbrev nD : Nat := 1
abbrev τ : Topo := Topo.v7x

variable {F : FTy → Type} [FloatOps F]
-- ==== Proof.Mesh.lean ====
/-
# The mesh, the transfers and the communication buffer

Eight devices stand in two rings of four. A device sends to its right neighbour, to its left neighbour and to the
device at the same place of the other ring. Ten transfers bring the experts of the seven other devices into slots
1 to 7 of the communication buffer (some slots arrive as two halves); slot 0 holds the device's own experts.
This module names the neighbours, lists the transfers, and states what the buffer holds in the end.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit
public import Idealize.ShloMosaic.Lib.Rounds
public import Idealize.ShloMosaic.Lib.Writes
public import Idealize.ShloMosaic.Lib.Tactic

@[expose] public section

noncomputable section

namespace Cert.Moe

open Cert.KernelIdeal Cert.KernelIdeal.Gen
open Idealize.ShloMosaic
open Idealize.ShloMosaic.TcCoe

variable {F : FTy → Type} [FloatOps F]

/-! ## The neighbours -/

set_option backward.proofsInPublic true in
/-- The next device on the same ring of four. -/
def right (c : Dev nD) : Dev nD := ⟨(c.val / 4 * 4 + (c.val + 1) % 4) % 8, Nat.mod_lt _ (by decide)⟩
set_option backward.proofsInPublic true in
/-- The device before, on the same ring of four. -/
def left (c : Dev nD) : Dev nD := ⟨(c.val / 4 * 4 + (c.val + 3) % 4) % 8, Nat.mod_lt _ (by decide)⟩
set_option backward.proofsInPublic true in
/-- The device at the same place of the other ring. -/
def across (c : Dev nD) : Dev nD := ⟨(c.val + 4) % 8, Nat.mod_lt _ (by decide)⟩
/-- The device two places on, on the same ring. -/
def facing (c : Dev nD) : Dev nD := right (right c)

theorem left_right (c : Dev nD) : left (right c) = c := by revert c; decide
theorem right_left (c : Dev nD) : right (left c) = c := by revert c; decide
theorem across_across (c : Dev nD) : across (across c) = c := by revert c; decide

/-- The three directions a device sends in: 0 to the right, 1 to the left, 2 across. -/
def go : Fin 3 → Dev nD ≃ Dev nD
  | 0 => ⟨right, left, left_right, right_left⟩
  | 1 => ⟨left, right, right_left, left_right⟩
  | 2 => ⟨across, across, across_across, across_across⟩

/-! The device ids that the kernel computes, by name. -/

theorem dev1_eq (c : Dev nD) : (⟨k0_dev1 c, k0_dev1_lt c⟩ : Dev nD) = (go 0).symm c := by revert c; decide +kernel
theorem dev2_eq (c : Dev nD) : (⟨k0_dev2 c, k0_dev2_lt c⟩ : Dev nD) = (go 1).symm c := by revert c; decide +kernel
theorem dev3_eq (c : Dev nD) : (⟨k0_dev3 c, k0_dev3_lt c⟩ : Dev nD) = (go 2).symm c := by revert c; decide +kernel
theorem dev4_eq (c : Dev nD) : (⟨k0_dev4 c, k0_dev4_lt c⟩ : Dev nD) = go 0 c := by revert c; decide +kernel
theorem dev5_eq (c : Dev nD) : (⟨k0_dev5 c, k0_dev5_lt c⟩ : Dev nD) = go 1 c := by revert c; decide +kernel
theorem dev6_eq (c : Dev nD) : (⟨k0_dev6 c, k0_dev6_lt c⟩ : Dev nD) = go 2 c := by revert c; decide +kernel
theorem dev7_eq (c : Dev nD) : (⟨k0_dev7 c, k0_dev7_lt c⟩ : Dev nD) = go 0 c := by revert c; decide +kernel
theorem dev8_eq (c : Dev nD) : (⟨k0_dev8 c, k0_dev8_lt c⟩ : Dev nD) = go 2 c := by revert c; decide +kernel
theorem dev9_eq (c : Dev nD) : (⟨k0_dev9 c, k0_dev9_lt c⟩ : Dev nD) = go 0 c := by revert c; decide +kernel
theorem dev10_eq (c : Dev nD) : (⟨k0_dev10 c, k0_dev10_lt c⟩ : Dev nD) = go 1 c := by revert c; decide +kernel
theorem dev11_eq (c : Dev nD) : (⟨k0_dev11 c, k0_dev11_lt c⟩ : Dev nD) = go 2 c := by revert c; decide +kernel
theorem dev12_eq (c : Dev nD) : (⟨k0_dev12 c, k0_dev12_lt c⟩ : Dev nD) = go 1 c := by revert c; decide +kernel
theorem dev13_eq (c : Dev nD) : (⟨k0_dev13 c, k0_dev13_lt c⟩ : Dev nD) = go 1 c := by revert c; decide +kernel

/-! ## The ten transfers -/

/-- The direction of transfer `k`. -/
def dirOf : Fin 10 → Fin 3 := ![0, 0, 0, 1, 1, 1, 1, 2, 2, 2]
/-- The slot that transfer `k` reads on the sender. -/
def srcSlot : Fin 10 → ℕ := ![0, 1, 4, 0, 4, 6, 6, 0, 1, 5]
/-- The slot that transfer `k` writes on the receiver. -/
def dstSlot : Fin 10 → ℕ := ![1, 3, 2, 5, 6, 7, 7, 4, 2, 6]
/-- The first expert of the slot that transfer `k` moves. -/
def firstOf : Fin 10 → ℕ := ![0, 0, 0, 0, 0, 0, 2, 0, 2, 2]
/-- How many experts of the slot transfer `k` moves. -/
def countOf : Fin 10 → ℕ := ![4, 4, 2, 4, 2, 2, 2, 4, 2, 2]

/-- The device that transfer `k` of device `c` goes to. -/
abbrev tgt (k : Fin 10) (c : Dev nD) : Dev nD := go (dirOf k) c

/-- The device whose experts slot `s` of device `c` holds in the end. -/
def owner (c : Dev nD) : ℕ → Dev nD
  | 0 => c
  | 1 => left c
  | 2 => left (across c)
  | 3 => facing c
  | 4 => across c
  | 5 => right c
  | 6 => right (across c)
  | _ => facing (across c)

/-- What a transfer carries is what the receiver's slot is to hold. -/
theorem owner_tgt (k : Fin 10) (c : Dev nD) : owner (tgt k c) (dstSlot k) = owner c (srcSlot k) := by
  revert k c; decide +kernel

/-! ## Pieces of the communication buffer -/

abbrev scrM : Memref sig .tc .vmem S8x4x256x512 .bf16 := Memref.whole cc0_scratch0

/-- Experts `lo` to `lo + n - 1` of slot `s`, as a set of elements of the buffer. -/
def piece (s lo n : ℕ) : Finset S8x4x256x512.Idx :=
  Finset.univ.filter fun i => (i 0).val = s ∧ lo ≤ (i 1).val ∧ (i 1).val < lo + n

theorem mem_piece {s lo n : ℕ} {i : S8x4x256x512.Idx} :
    i ∈ piece s lo n ↔ (i 0).val = s ∧ lo ≤ (i 1).val ∧ (i 1).val < lo + n := by
  unfold piece; rw [Finset.mem_filter]; exact ⟨fun h => h.2, fun h => ⟨Finset.mem_univ _, h⟩⟩

/-- Pieces of different slots, or of one slot at ranges that do not meet, have no element in common. -/
theorem piece_disjoint {s lo n s' lo' n' : ℕ} (h : s ≠ s' ∨ lo + n ≤ lo' ∨ lo' + n' ≤ lo) :
    Disjoint (piece s lo n) (piece s' lo' n') := by
  rw [Finset.disjoint_left]; intro i h₁ h₂
  rw [mem_piece] at h₁ h₂; omega

/-- Two adjoining ranges of a slot make one. -/
theorem piece_union {s lo a b : ℕ} : piece s lo (a + b) = piece s lo a ∪ piece s (lo + a) b := by
  ext i; rw [Finset.mem_union, mem_piece, mem_piece, mem_piece]; omega

/-- The eight slots are the whole buffer. -/
theorem slots_univ : (Finset.univ : Finset (Fin 8)).biUnion (fun s => piece s.val 0 4) = Finset.univ := by
  ext i
  rw [Finset.mem_biUnion]
  refine ⟨fun _ => Finset.mem_univ _, fun _ => ⟨i 0, Finset.mem_univ _, mem_piece.mpr ⟨rfl, Nat.zero_le _, ?_⟩⟩⟩
  have : (i 1).val < 4 := (i 1).isLt
  omega

/-- The rectangle of `n` experts of one slot, and its set of elements. -/
theorem rect_piece {sz : Fin 4 → ℕ} {s lo n : ℕ} (hsz : sz = ![1, n, 256, 512])
    (h : ∀ a, (![s, lo, 0, 0] : Fin 4 → ℕ) a + sz a ≤ S8x4x256x512.size a) :
    (Rect.unit (s := S8x4x256x512) ![s, lo, 0, 0] sz h).set = piece s lo n := by
  subst hsz
  ext i
  rw [Rect.mem_set_unit, mem_piece]
  constructor
  · intro hi
    have h0 := hi 0; have h1 := hi 1
    simp only [Matrix.cons_val_zero, Matrix.cons_val_one] at h0 h1
    omega
  · rintro ⟨h0, h1, h2⟩ a
    have e2 : (i 2).val < 256 := (i 2).isLt
    have e3 : (i 3).val < 512 := (i 3).isLt
    fin_cases a
    · exact ⟨h0.ge, by show (i 0).val < s + 1; omega⟩
    · exact ⟨h1, h2⟩
    · exact ⟨Nat.zero_le _, by show (i 2).val < 0 + 256; omega⟩
    · exact ⟨Nat.zero_le _, by show (i 3).val < 0 + 512; omega⟩

/-- A whole slot, as the kernel's transfers name it. -/
abbrev slotM (s : ℕ) (h : ∀ a, (![s, 0, 0, 0] : Fin 4 → ℕ) a + S1x4x256x512.size a ≤ S8x4x256x512.size a) :
    Memref sig .tc .vmem S4x256x512 .bf16 :=
  (scrM.slice (Rect.unit (s := S8x4x256x512) ![s, 0, 0, 0] S1x4x256x512.size h) (fun _ => rfl)).squeeze
    S4x256x512 squeezes_S1x4x256x512_S4x256x512
/-- Half a slot, as the kernel's transfers name it. -/
abbrev halfM (s lo : ℕ) (h : ∀ a, (![s, lo, 0, 0] : Fin 4 → ℕ) a + S1x2x256x512.size a ≤ S8x4x256x512.size a) :
    Memref sig .tc .vmem S2x256x512 .bf16 :=
  (scrM.slice (Rect.unit (s := S8x4x256x512) ![s, lo, 0, 0] S1x2x256x512.size h) (fun _ => rfl)).squeeze
    S2x256x512 squeezes_S1x2x256x512_S2x256x512

theorem slotM_set (s : ℕ) (h) : (slotM s h).view.set = piece s 0 4 := by
  show ((scrM.view.slice _).reshape _ _).set = _
  rw [View.set_reshape]; exact (View.set_slice_whole _ _).trans (rect_piece rfl h)
theorem halfM_set (s lo : ℕ) (h) : (halfM s lo h).view.set = piece s lo 2 := by
  show ((scrM.view.slice _).reshape _ _).set = _
  rw [View.set_reshape]; exact (View.set_slice_whole _ _).trans (rect_piece rfl h)

/-- The credit of a whole slot's transfer, and of half a slot's. -/
def credit4 : ℕ := (slotM 0 inb_S8x4x256x512_S1x4x256x512_0_0_0_0).view.dmaCredit
def credit2 : ℕ := (halfM 2 0 inb_S8x4x256x512_S1x2x256x512_2_0_0_0).view.dmaCredit
theorem credit4_pos : 0 < credit4 := View.dmaCredit_pos _ (by decide)
theorem credit2_pos : 0 < credit2 := View.dmaCredit_pos _ (by decide)
theorem slotM_credit (s : ℕ) (h) : (slotM s h).view.dmaCredit = credit4 := rfl
theorem halfM_credit (s lo : ℕ) (h) : (halfM s lo h).view.dmaCredit = credit2 := rfl

/-- The amount that transfer `k` adds to each of its two semaphores. -/
def amt (k : Fin 10) : ℕ := if countOf k = 4 then credit4 else credit2
theorem amt_pos (k : Fin 10) : 0 < amt k := by
  unfold amt; split; exacts [credit4_pos, credit2_pos]

/-! ## What the buffer holds in the end -/

abbrev WBlock (F : FTy → Type) : Type := S4x256x512.Idx → Elt F .bf16

/-- An element's place within its slot. -/
def inSlot (i : S8x4x256x512.Idx) : S4x256x512.Idx := fun a => i a.succ

/-- The buffer of device `c` once all has arrived: slot `s` holds the experts of `owner c s`. -/
def full (W : Dev nD → WBlock F) (c : Dev nD) : S8x4x256x512.Idx → Elt F .bf16 :=
  fun i => W (owner c (i 0).val) (inSlot i)

/-- Equal owners and equal places in the slot give equal elements. -/
theorem full_congr (W : Dev nD → WBlock F) {c n : Dev nD} {i j : S8x4x256x512.Idx}
    (ho : owner c (i 0).val = owner n (j 0).val) (h : ∀ a : Fin 3, (i a.succ).val = (j a.succ).val) :
    full W c i = full W n j := by
  unfold full
  rw [ho]; exact congrArg _ (funext fun a => Fin.ext (h a))

/-- A transfer of one piece of a slot into another slot: on the receiver's piece, what was written is the final contents. -/
theorem landing (W : Dev nD → WBlock F) {c n : Dev nD} {sh : Shape} {sz : Fin 4 → ℕ} {s s' lo : ℕ}
    (h h') (hn hn') (h1 : sz 0 = 1) (ho : owner n s' = owner c s)
    (fd : cc0_scratch0.ty.Contents (Elt F)) :
    let src : View sig .tc .vmem sh .bf16 :=
      ((scrM.view.slice (Rect.unit (s := S8x4x256x512) ![s, lo, 0, 0] sz h)).reshape sh hn)
    let dst : View sig .tc .vmem sh .bf16 :=
      ((scrM.view.slice (Rect.unit (s := S8x4x256x512) ![s', lo, 0, 0] sz h')).reshape sh hn')
    ∀ i ∈ dst.set, dst.write (Elt F) fd (src.read (Elt F) (full W c)) Finset.univ i = full W n i := by
  intro src dst i hi
  obtain ⟨x, -, rfl⟩ := Finset.mem_map.mp hi
  rw [View.write_emb_of_mem _ _ (Finset.mem_univ x), View.read_apply]
  let y : (Rect.unit (s := S8x4x256x512) ![s, lo, 0, 0] sz h).shape.Idx := Shape.reshapeEquiv hn x
  have hy : (y 0).val = 0 := by
    have h0 : (y 0).val < sz 0 := (y 0).isLt
    omega
  show full W c ((Rect.unit (s := S8x4x256x512) ![s, lo, 0, 0] sz h).emb y)
    = full W n ((Rect.unit (s := S8x4x256x512) ![s', lo, 0, 0] sz h').emb y)
  refine full_congr W ?_ fun a => ?_
  · rw [Rect.emb_apply, Rect.emb_apply]
    show owner c (s + 1 * (y 0).val) = owner n (s' + 1 * (y 0).val)
    rw [hy]; exact ho.symm
  · rw [Rect.emb_apply, Rect.emb_apply]
    fin_cases a <;> rfl

end Cert.Moe

end
-- ==== Proof.Protocol.lean ====
/-
# The protocol

Each device has 21 semaphore cells: the barrier cell, and for each of the ten transfers a send cell and a receive cell.
The barrier cell is raised once by each of the three neighbours; with its signal a neighbour hands over the pieces of
its own communication buffer that this device's transfers in that direction will write. A send cell gives the sender
back its share of the piece it sent; a receive cell gives the receiver its piece, holding the final contents.
-/
module

public import proofs.«01_k».proof.Proof.Mesh

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's own copy, and this protocol's with duties named in `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev barS : Sem sig := (SemArray.scalar (sig.barrier 0 rfl) : Sems sig S_).sem
set_option backward.proofsInPublic true in
/-- The semaphore that tells device `c` that its transfer `k` has left, -/
def sendS (k : Fin 10) : DmaSem sig := (⟨6 + k.val, by have := k.isLt; show 6 + k.val < 26; omega⟩ : Fin 26)
set_option backward.proofsInPublic true in
/-- and the one that tells it that transfer `k` to it has landed. -/
def recvS (k : Fin 10) : DmaSem sig := (⟨16 + k.val, by have := k.isLt; show 16 + k.val < 26; omega⟩ : Fin 26)
set_option backward.proofsInPublic true in
/-- The transfer that a DMA semaphore belongs to. -/
def xferOf (q : DmaSem sig) : Fin 10 := ⟨(q.val + 4) % 10, Nat.mod_lt _ (by decide)⟩

abbrev barCell (c : Dev nD) : GSem nD τ sig := ((c : Thread nD τ), .reg barS)
abbrev sendCell (c : Dev nD) (k : Fin 10) : GSem nD τ sig := ((c : Thread nD τ), .dma (sendS k))
abbrev recvCell (c : Dev nD) (k : Fin 10) : GSem nD τ sig := ((c : Thread nD τ), .dma (recvS k))

theorem xferOf_send (k : Fin 10) : xferOf (sendS k) = k := by revert k; decide
theorem xferOf_recv (k : Fin 10) : xferOf (recvS k) = k := by revert k; decide
theorem send_val (k : Fin 10) : (sendS k).val = 6 + k.val := rfl
theorem recv_val (k : Fin 10) : (recvS k).val = 16 + k.val := rfl

/-! ## The payloads -/

/-- A share of some elements of device `c`'s communication buffer, at contents `f`. -/
def scr (c : Dev nD) (I : Finset S8x4x256x512.Idx) (q : PosShare TreeShare) (f : S8x4x256x512.Idx → Elt F .bf16) : sProp 𝕄 :=
  ((c : Thread nD τ).loc cc0_scratch0) ↦[I]{q} f

instance scr_storable (c : Dev nD) (I q) (f : S8x4x256x512.Idx → Elt F .bf16) : BI.Storable (upEmb : UEmb _ 𝕄) (scr c I q f) := by
  unfold scr; infer_instance

/-- The piece that transfer `k` reads, and the piece that it writes. -/
abbrev srcPiece (k : Fin 10) : Finset S8x4x256x512.Idx := piece (srcSlot k) (firstOf k) (countOf k)
abbrev dstPiece (k : Fin 10) : Finset S8x4x256x512.Idx := piece (dstSlot k) (firstOf k) (countOf k)

/-- The share of its source that transfer `k` takes; a share of every piece stays behind for the kernel's loads. -/
def shareOf : Fin 10 → PosShare TreeShare :=
  ![fullShare.left.left, fullShare.left, fullShare.left, fullShare.left.right, fullShare.right.left,
    fullShare.left, fullShare.left, fullShare.right.left, fullShare.right.left, fullShare.left]

section Payloads
variable (W : Dev nD → WBlock F)

/-- What a send cell gives back. -/
def sendPay (c : Dev nD) (k : Fin 10) : sProp 𝕄 := scr c (srcPiece k) (shareOf k) (full W c)
/-- What a receive cell delivers. -/
def recvPay (c : Dev nD) (k : Fin 10) : sProp 𝕄 := scr c (dstPiece k) fullShare (full W c)
/-- The piece that transfer `k` of device `c` will write, still at any contents. -/
def landPiece (c : Dev nD) (k : Fin 10) : sProp 𝕄 := iprop(∃ f, scr (F := F) (tgt k c) (dstPiece k) fullShare f)
/-- What the signal of the neighbour in direction `j` brings device `c`. -/
def barPay (c : Dev nD) (j : Fin 3) : sProp 𝕄 := bigSep (Finset.univ.filter fun k => dirOf k = j) (landPiece (F := F) c)

instance sendPay_storable (c : Dev nD) (k) : BI.Storable (upEmb : UEmb _ 𝕄) (sendPay W c k) := by unfold sendPay; infer_instance
instance recvPay_storable (c : Dev nD) (k) : BI.Storable (upEmb : UEmb _ 𝕄) (recvPay W c k) := by unfold recvPay; infer_instance
instance landPiece_storable (c : Dev nD) (k) : BI.Storable (upEmb : UEmb _ 𝕄) (landPiece (F := F) c k) := by
  unfold landPiece; infer_instance
instance barPay_storable (c : Dev nD) (j) : BI.Storable (upEmb : UEmb _ 𝕄) (barPay (F := F) c j) := by unfold barPay; infer_instance

/-! ## The schedule -/

/-- One round. A barrier cell has three duties of one unit; a transfer's cell the duty 0, of the transfer's credit. -/
def sched : Rounds.Schedule (GSem nD τ sig) (Fin 3) 𝕄 where
  duties g r := if r = 0 ∧ g.1.2 = .tc then
      (match g.2 with | .reg _ => Finset.univ | .dma q => if 6 ≤ q.val then {0} else ∅) else ∅
  unitless _ := False
  amount g _ _ := match g.2 with | .reg _ => 1 | .dma q => amt (xferOf q)
  payload g _ d := match g.2 with
    | .reg _ => barPay g.1.1 d
    | .dma q => if 16 ≤ q.val then recvPay W g.1.1 (xferOf q) else sendPay W g.1.1 (xferOf q)
  amount_pos g _ _ _ := by
    cases g.2 with
    | reg _ => exact Nat.one_pos
    | dma q => exact amt_pos _

instance sched_storable (g : GSem nD τ sig) (r : ℕ) (d : Fin 3) : BI.Storable (upEmb : UEmb _ 𝕄) ((sched W).payload g r d) := by
  obtain ⟨t, s⟩ := g
  cases s with
  | reg _ => show BI.Storable upEmb (barPay (F := F) t.1 d); infer_instance
  | dma q =>
    show BI.Storable upEmb (if 16 ≤ q.val then recvPay W t.1 (xferOf q) else sendPay W t.1 (xferOf q))
    split <;> infer_instance

theorem duties_bar (c : Dev nD) : (sched W).duties (barCell c) 0 = Finset.univ := by
  dsimp only [sched]; exact if_pos ⟨rfl, rfl⟩
theorem duties_send (c : Dev nD) (k : Fin 10) : (sched W).duties (sendCell c k) 0 = {0} := by
  dsimp only [sched]; rw [if_pos ⟨rfl, rfl⟩]; exact if_pos (by rw [send_val]; omega)
theorem duties_recv (c : Dev nD) (k : Fin 10) : (sched W).duties (recvCell c k) 0 = {0} := by
  dsimp only [sched]; rw [if_pos ⟨rfl, rfl⟩]; exact if_pos (by rw [recv_val]; omega)
theorem duties_later (g : GSem nD τ sig) : ∀ r, 1 ≤ r → (sched W).duties g r = ∅ :=
  fun r hr => if_neg fun h => by omega

theorem amount_bar (c : Dev nD) (d : Fin 3) : (sched W).amount (barCell c) 0 d = 1 := rfl
theorem amount_send (c : Dev nD) (k : Fin 10) (d : Fin 3) : (sched W).amount (sendCell c k) 0 d = amt k := by
  show amt (xferOf (sendS k)) = _; rw [xferOf_send]
theorem amount_recv (c : Dev nD) (k : Fin 10) (d : Fin 3) : (sched W).amount (recvCell c k) 0 d = amt k := by
  show amt (xferOf (recvS k)) = _; rw [xferOf_recv]

theorem payload_bar (c : Dev nD) (d : Fin 3) : (sched W).payload (barCell c) 0 d = barPay (F := F) c d := rfl
theorem payload_send (c : Dev nD) (k : Fin 10) (d : Fin 3) : (sched W).payload (sendCell c k) 0 d = sendPay W c k := by
  show (if 16 ≤ (sendS k).val then recvPay W c (xferOf (sendS k)) else sendPay W c (xferOf (sendS k))) = _
  rw [if_neg (by have := k.isLt; rw [send_val]; omega), xferOf_send]
theorem payload_recv (c : Dev nD) (k : Fin 10) (d : Fin 3) : (sched W).payload (recvCell c k) 0 d = recvPay W c k := by
  show (if 16 ≤ (recvS k).val then recvPay W c (xferOf (recvS k)) else sendPay W c (xferOf (recvS k))) = _
  rw [if_pos (by rw [recv_val]; omega), xferOf_recv]

theorem expect_bar (c : Dev nD) : (sched W).expect (barCell c) 0 = 3 := by
  unfold Schedule.expect Schedule.amountOf
  rw [duties_bar, Finset.sum_congr rfl fun d _ => amount_bar W c d]; rfl
theorem expect_send (c : Dev nD) (k : Fin 10) : (sched W).expect (sendCell c k) 0 = amt k := by
  unfold Schedule.expect Schedule.amountOf; rw [duties_send, Finset.sum_singleton, amount_send]
theorem expect_recv (c : Dev nD) (k : Fin 10) : (sched W).expect (recvCell c k) 0 = amt k := by
  unfold Schedule.expect Schedule.amountOf; rw [duties_recv, Finset.sum_singleton, amount_recv]

/-- All that a barrier cell's round brings: the landing pieces of all ten transfers. -/
theorem rest_bar (c : Dev nD) :
    bigSep ((sched W).duties (barCell c) 0 \ ∅) (fun d => (sched W).payload (barCell c) 0 d)
      = iprop(barPay (F := F) c 0 ∗ barPay (F := F) c 1 ∗ barPay (F := F) c 2) := by
  rw [Finset.sdiff_empty, duties_bar, bigSep_univ_eq_bigSepL [0, 1, 2] (by decide) (by decide)]; rfl
theorem rest_send (c : Dev nD) (k : Fin 10) :
    bigSep ((sched W).duties (sendCell c k) 0 \ ∅) (fun d => (sched W).payload (sendCell c k) 0 d) = sendPay W c k := by
  rw [Finset.sdiff_empty, duties_send, bigSep_singleton, payload_send]
theorem rest_recv (c : Dev nD) (k : Fin 10) :
    bigSep ((sched W).duties (recvCell c k) 0 \ ∅) (fun d => (sched W).payload (recvCell c k) 0 d) = recvPay W c k := by
  rw [Finset.sdiff_empty, duties_recv, bigSep_singleton, payload_recv]

end Payloads

/-! The barrier payloads, transfer by transfer. -/

theorem barPay_right (c : Dev nD) : barPay (F := F) c 0 = iprop(landPiece (F := F) c 0 ∗ landPiece (F := F) c 1 ∗ landPiece (F := F) c 2) := by
  unfold barPay
  rw [show (Finset.univ.filter fun k => dirOf k = 0) = {0, 1, 2} by decide]
  rw [bigSep_eq_bigSepL_of_eq [0, 1, 2] (by decide) (by decide)]; rfl
theorem barPay_left (c : Dev nD) :
    barPay (F := F) c 1 = iprop(landPiece (F := F) c 3 ∗ landPiece (F := F) c 4 ∗ landPiece (F := F) c 5 ∗ landPiece (F := F) c 6) := by
  unfold barPay
  rw [show (Finset.univ.filter fun k => dirOf k = 1) = {3, 4, 5, 6} by decide]
  rw [bigSep_eq_bigSepL_of_eq [3, 4, 5, 6] (by decide) (by decide)]; rfl
theorem barPay_across (c : Dev nD) : barPay (F := F) c 2 = iprop(landPiece (F := F) c 7 ∗ landPiece (F := F) c 8 ∗ landPiece (F := F) c 9) := by
  unfold barPay
  rw [show (Finset.univ.filter fun k => dirOf k = 2) = {7, 8, 9} by decide]
  rw [bigSep_eq_bigSepL_of_eq [7, 8, 9] (by decide) (by decide)]; rfl

/-! ## What a device owes, and the order of the cells -/

/-- The credit that the transfers `l`, still to be sent by device `c`, owe their receive cells. -/
def owed (c : Dev nD) : List (Fin 10) → CellTallies nD τ sig Unit
  | [] => 0
  | k :: l => owed c l + tallyAt (recvCell (tgt k c) k) () (amt k)

/-- The ten transfers in the order the kernel starts them. -/
abbrev sendOrder : List (Fin 10) := [0, 3, 7, 1, 8, 2, 4, 9, 5, 6]

/-- At launch a device owes all ten transfers and one signal to each neighbour. -/
def owed₀ (c : Dev nD) : CellTallies nD τ sig Unit :=
  owed c sendOrder + tallyAt (barCell ((go 2).symm c)) () 1 + tallyAt (barCell ((go 1).symm c)) () 1
    + tallyAt (barCell ((go 0).symm c)) () 1

/-- What a device owes is on receive cells of transfers it has still to send. -/
theorem owed_pos {c : Dev nD} {l : List (Fin 10)} {g : GSem nD τ sig} {u : Unit} (h : 0 < owed c l g u) :
    ∃ k ∈ l, g = recvCell (tgt k c) k := by
  induction l with
  | nil => exact absurd h (Nat.lt_irrefl 0)
  | cons k l ih =>
    unfold owed at h
    rw [Pi.add_apply, Finsupp.add_apply, tallyAt_apply] at h
    by_cases hk : g = recvCell (tgt k c) k ∧ u = ()
    · exact ⟨k, List.mem_cons_self .., hk.1⟩
    · rw [if_neg hk, Nat.add_zero] at h
      obtain ⟨k', hm, e⟩ := ih h
      exact ⟨k', List.mem_cons_of_mem _ hm, e⟩

/-- At launch: on those and on the neighbours' barrier cells. -/
theorem owed₀_pos {c : Dev nD} {g : GSem nD τ sig} {u : Unit} (h : 0 < owed₀ c g u) :
    (∃ k, g = recvCell (tgt k c) k) ∨ ∃ d, g = barCell d := by
  unfold owed₀ at h
  rw [Pi.add_apply, Finsupp.add_apply, Pi.add_apply, Finsupp.add_apply, Pi.add_apply, Finsupp.add_apply,
    tallyAt_apply, tallyAt_apply, tallyAt_apply] at h
  by_cases h2 : g = barCell ((go 2).symm c) ∧ u = (); · exact .inr ⟨_, h2.1⟩
  by_cases h1 : g = barCell ((go 1).symm c) ∧ u = (); · exact .inr ⟨_, h1.1⟩
  by_cases h0 : g = barCell ((go 0).symm c) ∧ u = (); · exact .inr ⟨_, h0.1⟩
  rw [if_neg h2, if_neg h1, if_neg h0, Nat.add_zero] at h
  obtain ⟨k, -, e⟩ := owed_pos h
  exact .inl ⟨k, e⟩

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- How far down the chain of forwarding a transfer stands. -/
def hop : Fin 10 → ℕ := ![2, 3, 3, 2, 3, 4, 4, 2, 3, 3]
/-- Levels: staging and send cells 0, the barrier 1, receive cells above by their hop. -/
def lvS : SemLoc sig → ℕ
  | .reg _ => 1
  | .dma q => if 16 ≤ q.val then hop (xferOf q) else 0
def lv (g : GSem nD τ sig) (_ : Unit) : ℕ := lvS g.2

theorem lvS_recv (k : Fin 10) : lvS (.dma (recvS k)) = hop k := by
  show (if 16 ≤ (recvS k).val then hop (xferOf (recvS k)) else 0) = _
  rw [if_pos (by rw [recv_val]; omega), xferOf_recv]

/-- A device may wait on a cell that lies below every transfer it has still to send. -/
theorem mayWait (c : Dev nD) (sm : SemLoc sig) (l : List (Fin 10)) (h : ∀ k ∈ l, lvS sm < hop k) :
    (levAts L lv : sProp 𝕄) ⊢ MayWait (c : Thread nD τ) sm () (owed c l) := by
  refine MayOwe.of_cut (L := L) (lev := lv) (lvS sm)
    (fun p hp => by rw [Finset.mem_singleton.mp hp, L_tc]; exact Finset.mem_singleton_self _)
    (fun g u hg => ?_) (fun p hp => by rw [Finset.mem_singleton.mp hp]; exact le_refl _) (fun g u hg => ?_)
  · obtain ⟨k, -, rfl⟩ := owed_pos hg; exact Finset.mem_singleton_self _
  · obtain ⟨k, hk, rfl⟩ := owed_pos hg
    show lvS sm < lvS (.dma (recvS k)); rw [lvS_recv]; exact h k hk

/-- At launch, and at the end, a device may wait on its staging cells. -/
theorem mayWait_stage (c : Dev nD) (q : DmaSem sig) (hq : q.val < 6) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => ?_)
      (fun p hp => by
        rw [Finset.mem_singleton.mp hp]; show (if 16 ≤ q.val then hop (xferOf q) else 0) ≤ 0
        rw [if_neg (by omega)])
      (fun g u hg => ?_)
    · rcases owed₀_pos hg with ⟨k, rfl⟩ | ⟨d, rfl⟩ <;> exact Finset.mem_singleton_self _
    · rcases owed₀_pos hg with ⟨k, rfl⟩ | ⟨d, rfl⟩
      · show 0 < lvS (.dma (recvS k)); rw [lvS_recv]; exact (by decide : ∀ k, 0 < hop k) k
      · exact Nat.one_pos
  · rw [MayWait_zero]; iintro -; iempintro

end Cert.Moe

end
-- ==== Proof.Steps.lean ====
/-
# One step of the kernel at a time

What device `c` holds of the protocol, and one rule for each kind of step: signalling a neighbour, the barrier wait,
starting transfer `k`, waiting for it on either end, and loading a slot or half a slot.
-/
module

public import proofs.«01_k».proof.Proof.Protocol

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## The cells by index, and what everyone knows of them -/

/-- A device's cells: the barrier, and per transfer the send cell (`false`) and the receive cell (`true`). -/
abbrev CellIx : Type := Option (Bool × Fin 10)

def csem : CellIx → SemLoc sig
  | none => .reg barS
  | some (false, k) => .dma (sendS k)
  | some (true, k) => .dma (recvS k)

abbrev kcell (ci : Dev nD × CellIx) : GSem nD τ sig := ((ci.1 : Thread nD τ), csem ci.2)

section
variable (W : Dev nD → WBlock F) (K : Dev nD × CellIx → ℕ)

/-- Every cell has its invariant, and has reached round 0. -/
def records : sProp 𝕄 :=
  iprop((bigSep Finset.univ fun ci : Dev nD × CellIx => cellInv ER (sched W) (K ci) (kcell ci))
    ∗ bigSep Finset.univ fun ci : Dev nD × CellIx => reached ER (kcell ci) 0)

instance records_persistent : BI.Persistent (records W K) := by unfold records; infer_instance

theorem inv_of_all (ci : Dev nD × CellIx) :
    (bigSep Finset.univ fun ci : Dev nD × CellIx => (cellInv ER (sched W) (K ci) (kcell ci) : sProp 𝕄))
      ⊢ cellInv ER (sched W) (K ci) (kcell ci) :=
  bigSep_elim (Finset.mem_univ ci)
theorem reached_of_all (ci : Dev nD × CellIx) :
    (bigSep Finset.univ fun ci : Dev nD × CellIx => (reached ER (kcell ci) 0 : sProp 𝕄)) ⊢ reached ER (kcell ci) 0 :=
  bigSep_elim (Finset.mem_univ ci)

theorem records_inv (ci : Dev nD × CellIx) : records W K ⊢ cellInv ER (sched W) (K ci) (kcell ci) :=
  BI.sep_and.trans (and_elimL.trans (inv_of_all W K ci))

theorem records_reached (ci : Dev nD × CellIx) : records W K ⊢ reached ER (kcell ci) 0 :=
  BI.sep_and.trans (and_elimR.trans (reached_of_all (F := F) ci))

/-! ## What a device holds -/

/-- The device still owes the transfers `l`. -/
def due (c : Dev nD) (l : List (Fin 10)) : sProp 𝕄 := iprop(∃ Ws, owes (c : Thread nD τ) (owed c l) Ws)
/-- The right to start transfer `k`. -/
def sendToks (c : Dev nD) (k : Fin 10) : sProp 𝕄 :=
  iprop(dutyTok ER (sendCell c k) 0 0 ∗ dutyTok ER (recvCell (tgt k c) k) 0 0 ∗ atPos ER (sendCell c k) 0 ∅ 0)
/-- The right to wait for a round of credit `n` at a cell. -/
def waitRight (g : GSem nD τ sig) (n : ℕ) : sProp 𝕄 := iprop(cred (tallyAt g () n) ∗ atPos ER g 0 ∅ 0)
/-- The right to wait for transfer `k`, to have left (`false`) or to have landed (`true`). -/
def ready (c : Dev nD) (b : Bool) (k : Fin 10) : sProp 𝕄 := waitRight (F := F) (kcell (c, some (b, k))) (amt k)
/-- That cell, back at zero. -/
def shut (c : Dev nD) (b : Bool) (k : Fin 10) : sProp 𝕄 := semVal (kcell (c, some (b, k))) 0

/-! ## The steps -/

/-- The weakest precondition of a program of device `c` within the one kernel. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps
variable (c : Dev nD)

/-- A program that has returned. -/
theorem step_ret {α : Type} {Q : α → sProp 𝕄} {a : α} : Q a ⊢ WP c (.ret a) Q := by
  unfold WP; rw [wp_ret]; iintro H; imodintro; iexact H

/-- A program followed by another. -/
theorem WP_bind {α β : Type} {Q : β → sProp 𝕄} (p : Prog (TpuEff nD τ sig (Elt F) Λ₀ .tc) α) (k : α → Prog (TpuEff nD τ sig (Elt F) Λ₀ .tc) β) :
    WP c (p >>= k) Q = WP c p fun a => WP c (k a) Q := wp_bind _ _ _ _ _ _

/-- Signalling the neighbour `d` whose transfers in direction `j` come here: it is handed the pieces they will write. -/
theorem step_signal {α : Type} {Q : α → sProp 𝕄} (j : Fin 3) {d : Dev nD} (hd : d = (go j).symm c) (O : CellTallies nD τ sig Unit)
    {k' : PUnit → Prog (TpuEff nD τ sig (Elt F) Λ₀ .tc) α} {Ws : Waits sig Unit} :
    iprop(records W K ∗ owes (c : Thread nD τ) (O + tallyAt (barCell ((go j).symm c)) () 1) Ws
        ∗ dutyTok ER (barCell ((go j).symm c)) 0 j ∗ barPay (F := F) ((go j).symm c) j)
      ⊢ iprop((owes (c : Thread nD τ) O Ws -∗ WP c (k' ⟨⟩) Q)
          -∗ WP c (.op (.semSignal (d : Thread nD τ) barS (1#32).toNat) k') Q) := by
  subst hd
  iintro ⟨#HR, HO, Ht, Hp⟩ Hk
  have hd : j ∈ (sched W).duties (barCell ((go j).symm c)) 0 := by rw [duties_bar]; exact Finset.mem_univ _
  have ha : (sched W).amount (barCell ((go j).symm c)) 0 j = (1#32).toNat := rfl
  iapply (Rounds.wp_signal 𝒱₀ ER (sched W) (c : Thread nD τ) none (dst := ((go j).symm c : Thread nD τ)) (κ := K ((go j).symm c, none))
      (d := j) hd ha () O rfl)
    $$ [HO Ht Hp] [Hk]
  · isplitr; · iapply (records_inv W K ((go j).symm c, none)); iexact HR
    isplitl [HO]; · iexact HO
    isplitl [Ht]; · iexact Ht
    isplitl [Hp]; · rw [payload_bar]; iexact Hp
    iapply (records_reached W K ((go j).symm c, none)); iexact HR
  iexact Hk

/-- The barrier wait: the three neighbours have signalled, and the landing pieces of all ten transfers come with it. -/
theorem step_barrier {α : Type} {Q : α → sProp 𝕄} (l : List (Fin 10)) (hl : ∀ k ∈ l, 1 < hop k)
    {k' : PUnit → Prog (TpuEff nD τ sig (Elt F) Λ₀ .tc) α} :
    iprop(records W K ∗ levAts L lv ∗ waitRight (barCell c) 3 ∗ due c l)
      ⊢ iprop(((due c l ∗ semVal (barCell c) 0 ∗ barPay (F := F) c 0 ∗ barPay (F := F) c 1 ∗ barPay (F := F) c 2)
            -∗ WP c (k' ⟨⟩) Q)
          -∗ WP c (.op (.semWait barS (3#32).toNat) k') Q) := by
  unfold waitRight due
  iintro ⟨#HR, #Hlev, ⟨Hc, Hat⟩, ⟨%Ws, HO⟩⟩ Hk
  iapply (Rounds.wp_wait_rest_token 𝒱₀ ER (sched W) (c : Thread nD τ) none (κ := K (c, none))
      (wpE_semWait_eq 𝒱₀ (c : Thread nD τ) none Set.univ) (Set.mem_univ _) () (O := owed c l) (W := Ws) (R := 0) (m := 0) (T := ∅)
      (by rw [expect_bar]; decide)) $$ [Hc HO Hat]
  · isplitr; · iapply (records_inv W K (c, none)); iexact HR
    isplitl [Hc]; · iexact Hc
    isplitl [HO]; · iexact HO
    isplitr; · iapply (mayWait c (.reg barS) l hl); iexact Hlev
    iexact Hat
  iintro ⟨HO, Hat, -, Hpay⟩
  ihave Hp := (Entails.of_eq (rest_bar W c)) $$ Hpay
  imod (Rounds.cell_close ER (sched W) (Set.mem_univ (K (c, none))) (fun h => h) (R := 0 + 1) (duties_later W (barCell c))) $$ [Hat] with Hz
  · isplitr; · iapply (records_inv W K (c, none)); iexact HR
    iexact Hat
  iapply Hk
  isplitl [HO]; · iexists _; iexact HO
  isplitl [Hz]; · iexact Hz
  iexact Hp

/-- A piece of the buffer as a transfer names it: a rectangle of experts of one slot, the slot's axis dropped. -/
abbrev pieceM (sh : Shape) (sz : Fin 4 → ℕ) (s lo : ℕ)
    (h : ∀ a, (![s, lo, 0, 0] : Fin 4 → ℕ) a + sz a ≤ S8x4x256x512.size a)
    (hq : (Rect.unit (s := S8x4x256x512) ![s, lo, 0, 0] sz h).shape.Squeezes sh) : Memref sig .tc .vmem sh .bf16 :=
  (scrM.slice (Rect.unit (s := S8x4x256x512) ![s, lo, 0, 0] sz h) (fun _ => rfl)).squeeze sh hq

theorem pieceM_set {sh : Shape} {sz : Fin 4 → ℕ} {s lo n : ℕ} (h hq) (hsz : sz = ![1, n, 256, 512]) :
    (pieceM sh sz s lo h hq).view.set = piece s lo n := by
  show ((scrM.view.slice _).reshape _ _).set = _
  rw [View.set_reshape]; exact (View.set_slice_whole _ _).trans (rect_piece hsz h)

/-- Starting transfer `k`: a share of the source piece and the landing piece go in, and leave a claim on the send cell. -/
theorem step_send {α : Type} {Q : α → sProp 𝕄} (k : Fin 10) {n : Dev nD} (hn : n = tgt k c) (l : List (Fin 10)) {sh : Shape} {sz : Fin 4 → ℕ}
    {s s' lo : ℕ} {h hq h' hq'} (hsz : sz = ![1, countOf k, 256, 512]) (hs : s = srcSlot k) (hs' : s' = dstSlot k)
    (hlo : lo = firstOf k) (hc : (pieceM sh sz s' lo h' hq').view.dmaCredit = amt k)
    {sS rS : DmaSem sig} (hsS : sS = sendS k) (hrS : rS = recvS k)
    {hsc} {hsrc : (pieceM sh sz s lo h hq).view.WordExact} {hdst : (pieceM sh sz s' lo h' hq').view.WordExact} {hsem}
    {k' : PUnit → Prog (TpuEff nD τ sig (Elt F) Λ₀ .tc) α} :
    iprop(records W K ∗ scr c (srcPiece k) (shareOf k) (full W c) ∗ landPiece (F := F) c k ∗ sendToks (F := F) c k ∗ due c (k :: l))
      ⊢ iprop(((ready (F := F) c false k ∗ due c l) -∗ WP c (k' ⟨⟩) Q)
          -∗ WP c (.op (.enqueueDma (pieceM sh sz s lo h hq) (.remote (Dev.tc n) (pieceM sh sz s' lo h' hq') (.dma sS) hsc)
                (.dma rS) hsrc hdst hsem) k') Q) := by
  subst hn hs hs' hlo hsS hrS
  unfold landPiece sendToks due
  iintro ⟨#HR, Hsrc, ⟨%fd, Hdst⟩, ⟨Ht₁, Ht₂, Hat⟩, ⟨%Ws, HO⟩⟩ Hk
  have e₁ := pieceM_set (sh := sh) (s := srcSlot k) (lo := firstOf k) h hq hsz
  have e₂ := pieceM_set (sh := sh) (s := dstSlot k) (lo := firstOf k) h' hq' hsz
  have hpay₁ : ((pieceM sh sz (srcSlot k) (firstOf k) h hq).view.loc (c : Thread nD τ)
        ↦[(pieceM sh sz (srcSlot k) (firstOf k) h hq).view.set]{shareOf k} (full W c) : sProp 𝕄)
      ⊢ (sched W).payload (sendCell c k) 0 0 := by
    exact Entails.of_eq (by rw [e₁, payload_send]; rfl)
  have hpay₂ : ((pieceM sh sz (dstSlot k) (firstOf k) h' hq').view.loc (tgt k c : Thread nD τ)
        ↦[(pieceM sh sz (dstSlot k) (firstOf k) h' hq').view.set]{fullShare}
          ((pieceM sh sz (dstSlot k) (firstOf k) h' hq').view.write (Elt F) fd
            ((pieceM sh sz (srcSlot k) (firstOf k) h hq).view.read (Elt F) (full W c)) Finset.univ) : sProp 𝕄)
      ⊢ (sched W).payload (recvCell (tgt k c) k) 0 0 := by
    exact Entails.of_eq (by
      rw [payload_recv, pointsTo_congr (landing W h h' _ _ (by rw [hsz]; rfl) (owner_tgt k c) fd), e₂]; rfl)
  iapply (Rounds.wp_send_pointsTo 𝒱₀ ER (sched W) (c : Thread nD τ) none
      (κ₁ := K (c, some (false, k))) (κ₂ := K (tgt k c, some (true, k))) (r₁ := 0) (r₂ := 0) (d₁ := 0) (d₂ := 0) (fd := fd)
      (src := pieceM sh sz (srcSlot k) (firstOf k) h hq) (dst := pieceM sh sz (dstSlot k) (firstOf k) h' hq')
      (c' := (tgt k c : Thread nD τ)) (sS := .dma (sendS k)) (sem := .dma (recvS k))
      (by rw [duties_send]; exact Finset.mem_singleton_self _) (by rw [duties_recv]; exact Finset.mem_singleton_self _)
      () () (amt k) hc (amount_send W c k 0) (amount_recv W (tgt k c) k 0) (owed c l) rfl (W := Ws) hpay₁ hpay₂)
    $$ [Hsrc Hdst Ht₁ Ht₂ HO]
  · isplitr; · iapply (records_inv W K (c, some (false, k))); iexact HR
    isplitr; · iapply (records_inv W K (tgt k c, some (true, k))); iexact HR
    isplitl [Hsrc]; · rw [e₁]; unfold scr; iexact Hsrc
    isplitl [Hdst]; · rw [e₂]; unfold scr; iexact Hdst
    isplitl [HO]; · iexact HO
    isplitl [Ht₁]; · iexact Ht₁
    isplitr; · iapply (records_reached W K (c, some (false, k))); iexact HR
    isplitl [Ht₂]; · iexact Ht₂
    iapply (records_reached W K (tgt k c, some (true, k))); iexact HR
  iintro ⟨Hc, HO⟩
  iapply Hk
  isplitl [Hc Hat]
  · unfold ready waitRight; isplitl [Hc]; · iexact Hc
    iexact Hat
  iexists Ws; iexact HO

/-- Waiting for a transfer at one of its two cells: the cell closes, and gives what it holds. -/
theorem step_wait {α : Type} {Q : α → sProp 𝕄} (k : Fin 10) (b : Bool) (l : List (Fin 10)) (hl : ∀ k' ∈ l, lvS (csem (some (b, k))) < hop k') {sm : DmaSem sig}
    (hsm : SemLoc.dma sm = csem (some (b, k))) {sh sh' : Shape} {src : Memref sig .tc .vmem sh .bf16} {dst : Memref sig .tc .vmem sh' .bf16}
    (hc : dst.view.dmaCredit = amt k) {hsrc : src.view.WordExact} {hdst : dst.view.WordExact}
    {k' : PUnit → Prog (TpuEff nD τ sig (Elt F) Λ₀ .tc) α} :
    iprop(records W K ∗ levAts L lv ∗ ready (F := F) c b k ∗ due c l)
      ⊢ iprop(((due c l ∗ shut (F := F) c b k ∗ (bif b then recvPay W c k else sendPay W c k)) -∗ WP c (k' ⟨⟩) Q)
          -∗ WP c (.op (.waitDma2 sm src dst hsrc hdst) k') Q) := by
  have hex : (sched W).expect ((c : Thread nD τ), csem (some (b, k))) 0 = amt k := by
    cases b; exacts [expect_send W c k, expect_recv W c k]
  have hrest : bigSep ((sched W).duties ((c : Thread nD τ), csem (some (b, k))) 0 \ ∅)
        (fun d => (sched W).payload ((c : Thread nD τ), csem (some (b, k))) 0 d)
      = (bif b then recvPay W c k else sendPay W c k) := by
    cases b; exacts [rest_send W c k, rest_recv W c k]
  unfold ready waitRight due shut
  iintro ⟨#HR, #Hlev, ⟨Hc, Hat⟩, ⟨%Ws, HO⟩⟩ Hk
  dsimp only [kcell]
  rw [← hsm] at hl hex hrest ⊢
  iapply (Rounds.wp_wait_rest_token 𝒱₀ ER (sched W) (c : Thread nD τ) none (κ := K (c, some (b, k)))
      (wpE_waitDma2_eq 𝒱₀ (c : Thread nD τ) none Set.univ) (Set.mem_univ _) () (O := owed c l) (W := Ws) (R := 0) (m := 0) (T := ∅)
      (by rw [hex, hc]; exact Nat.zero_add _)) $$ [Hc HO Hat]
  · isplitr; · rw [hsm]; iapply (records_inv W K (c, some (b, k))); iexact HR
    isplitl [Hc]; · rw [hc]; iexact Hc
    isplitl [HO]; · iexact HO
    isplitr; · iapply (mayWait c (.dma sm) l hl); iexact Hlev
    iexact Hat
  iintro ⟨HO, Hat, -, Hpay⟩
  ihave Hp := (Entails.of_eq hrest) $$ Hpay
  imod (Rounds.cell_close ER (sched W) (Set.mem_univ (K (c, some (b, k)))) (fun h => h) (R := 0 + 1)
    (duties_later W ((c : Thread nD τ), .dma sm))) $$ [Hat] with Hz
  · isplitr; · rw [hsm]; iapply (records_inv W K (c, some (b, k))); iexact HR
    iexact Hat
  iapply Hk
  isplitl [HO]; · iexists _; iexact HO
  isplitl [Hz]; · iexact Hz
  iexact Hp

/-- The same, the transfer being of a whole slot, -/
theorem step_wait_slot {α : Type} {Q : α → sProp 𝕄} (k : Fin 10) (b : Bool) (l : List (Fin 10)) (hl : ∀ k' ∈ l, lvS (csem (some (b, k))) < hop k') {sm : DmaSem sig}
    (hsm : SemLoc.dma sm = csem (some (b, k))) {P : sProp 𝕄} (hP : (bif b then recvPay W c k else sendPay W c k) = P)
    (hc : credit4 = amt k) {sh : Shape} {src : Memref sig .tc .vmem sh .bf16} {s : ℕ} {h}
    {hsrc : src.view.WordExact} {hdst : (slotM s h).view.WordExact} {k' : PUnit → Prog (TpuEff nD τ sig (Elt F) Λ₀ .tc) α} :
    iprop(records W K ∗ levAts L lv ∗ ready (F := F) c b k ∗ due c l)
      ⊢ iprop(((due c l ∗ shut (F := F) c b k ∗ P) -∗ WP c (k' ⟨⟩) Q)
          -∗ WP c (.op (.waitDma2 sm src (slotM s h) hsrc hdst) k') Q) := by
  subst hP
  exact step_wait W K c k b l hl hsm (src := src) (dst := slotM s h) ((slotM_credit s h).trans hc)

/-- or of half a slot. -/
theorem step_wait_half {α : Type} {Q : α → sProp 𝕄} (k : Fin 10) (b : Bool) (l : List (Fin 10)) (hl : ∀ k' ∈ l, lvS (csem (some (b, k))) < hop k') {sm : DmaSem sig}
    (hsm : SemLoc.dma sm = csem (some (b, k))) {P : sProp 𝕄} (hP : (bif b then recvPay W c k else sendPay W c k) = P)
    (hc : credit2 = amt k) {sh : Shape} {src : Memref sig .tc .vmem sh .bf16} {s lo : ℕ} {h}
    {hsrc : src.view.WordExact} {hdst : (halfM s lo h).view.WordExact} {k' : PUnit → Prog (TpuEff nD τ sig (Elt F) Λ₀ .tc) α} :
    iprop(records W K ∗ levAts L lv ∗ ready (F := F) c b k ∗ due c l)
      ⊢ iprop(((due c l ∗ shut (F := F) c b k ∗ P) -∗ WP c (k' ⟨⟩) Q)
          -∗ WP c (.op (.waitDma2 sm src (halfM s lo h) hsrc hdst) k') Q) := by
  subst hP
  exact step_wait W K c k b l hl hsm (src := src) (dst := halfM s lo h) ((halfM_credit s lo h).trans hc)

/-- Loading experts of one slot, from any share of them. -/
theorem step_load {α : Type} {Q : α → sProp 𝕄} {sz : Fin 4 → ℕ} {s lo n : ℕ} (hsz : sz = ![1, n, 256, 512])
    {h : ∀ a, (![s, lo, 0, 0] : Fin 4 → ℕ) a + sz a ≤ S8x4x256x512.size a} {hl}
    {q : PosShare TreeShare} {f : S8x4x256x512.Idx → Elt F .bf16}
    (v : (Rect.unit (s := S8x4x256x512) ![s, lo, 0, 0] sz h).toLoadRect.shape.Idx → Elt F .bf16)
    (hv : ∀ y, v y = f ((Rect.unit (s := S8x4x256x512) ![s, lo, 0, 0] sz h).emb y))
    {k' : _ → Prog (TpuEff nD τ sig (Elt F) Λ₀ .tc) α} :
    scr c (piece s lo n) q f
      ⊢ iprop((scr c (piece s lo n) q f -∗ WP c (k' v) Q)
          -∗ WP c (.op (.load scrM (Rect.unit (s := S8x4x256x512) ![s, lo, 0, 0] sz h).toLoadRect hl) k') Q) := by
  have e : v = scrM.view.readAt (Elt F) (Rect.unit (s := S8x4x256x512) ![s, lo, 0, 0] sz h).toLoadRect f := funext fun y => hv y
  rw [e]
  unfold scr
  exact wp_load 𝒱₀ (c : Thread nD τ) none Set.univ (m := scrM) (by
    exact ((View.set_slice scrM.view (Rect.unit (s := S8x4x256x512) ![s, lo, 0, 0] sz h)).symm.trans
      ((View.set_slice_whole _ _).trans (rect_piece hsz h))).le)

/-- Loading from an operand's staging buffer. -/
theorem step_load_arg {α : Type} {Q : α → sProp 𝕄} {cs : CoreSpace} {sh : Shape} {e : EltTy} {m : Memref sig .tc cs sh e} {r : LoadRect sh} {hl}
    {q : PosShare TreeShare} {f : Buf (Elt F) (m.view.loc (c : Thread nD τ))} {v : r.shape.Idx → Elt F e} (hv : m.view.readAt (Elt F) r f = v)
    {k' : _ → Prog (TpuEff nD τ sig (Elt F) Λ₀ .tc) α} :
    (m.view.loc (c : Thread nD τ) ↦[m.view.set]{q} f : sProp 𝕄)
      ⊢ iprop(((m.view.loc (c : Thread nD τ) ↦[m.view.set]{q} f) -∗ WP c (k' v) Q) -∗ WP c (.op (.load m r hl) k') Q) := by
  subst hv
  exact wp_load 𝒱₀ (c : Thread nD τ) none Set.univ (m := m) (Finset.map_subset_map.mpr (Finset.subset_univ _))

/-- Storing into the result's staging buffer. -/
theorem step_store_arg {α : Type} {Q : α → sProp 𝕄} {cs : CoreSpace} {sh : Shape} {e : EltTy} {m : Memref sig .tc cs sh e} {r : Rect sh}
    {f g : Buf (Elt F) (m.view.loc (c : Thread nD τ))} {w : r.shape.Idx → Elt F e} (hg : (m.access r).write (Elt F) f w Finset.univ = g)
    {hx} {hm} {k' : PUnit → Prog (TpuEff nD τ sig (Elt F) Λ₀ .tc) α} :
    (m.view.loc (c : Thread nD τ) ↦[m.view.set]{fullShare} f : sProp 𝕄)
      ⊢ iprop(((m.view.loc (c : Thread nD τ) ↦[m.view.set]{fullShare} g) -∗ WP c (k' ⟨⟩) Q)
          -∗ WP c (.op (.store m r w Finset.univ hx hm) k') Q) := by
  subst hg
  exact wp_store 𝒱₀ (c : Thread nD τ) none Set.univ (m := m) (r := r) (S := m.view.set)
    ((View.set_slice m.view r).le.trans (Finset.map_subset_map.mpr (Finset.subset_univ _)))

/-- A slot's experts as a load of the whole slot reads them. -/
def slotVec (X : WBlock F) : S1x4x256x512.Idx → Elt F .bf16 := fun y => X fun a => y a.succ

set_option backward.proofsInPublic true in
/-- The place in the slot of an element of the half that starts at expert `lo`. -/
def halfIx (lo : ℕ) (h : lo + 2 ≤ 4) (y : S1x2x256x512.Idx) : S4x256x512.Idx := fun a =>
  ⟨(![lo, 0, 0] : Fin 3 → ℕ) a + (y a.succ).val, by
    have h1 : (y 1).val < 2 := (y 1).isLt
    have h2 : (y 2).val < 256 := (y 2).isLt
    have h3 : (y 3).val < 512 := (y 3).isLt
    fin_cases a
    · show lo + (y 1).val < 4; omega
    · show 0 + (y 2).val < 256; omega
    · show 0 + (y 3).val < 512; omega⟩

/-- Two of a slot's experts as a load of half the slot reads them. -/
def halfVec (lo : ℕ) (h : lo + 2 ≤ 4) (X : WBlock F) : S1x2x256x512.Idx → Elt F .bf16 := fun y => X (halfIx lo h y)

/-- Loading a whole slot. -/
theorem step_load_slot {α : Type} {Q : α → sProp 𝕄} {s : ℕ} (d : Dev nD) (hd : owner c s = d) {h} {hl} {q : PosShare TreeShare}
    {k' : _ → Prog (TpuEff nD τ sig (Elt F) Λ₀ .tc) α} :
    scr c (piece s 0 4) q (full W c)
      ⊢ iprop((scr c (piece s 0 4) q (full W c) -∗ WP c (k' (slotVec (W d))) Q)
          -∗ WP c (.op (.load scrM (Rect.unit (s := S8x4x256x512) ![s, 0, 0, 0] S1x4x256x512.size h).toLoadRect hl) k') Q) :=
  step_load c rfl _ fun y => by
    subst hd
    have h0 : (y 0).val < 1 := (y 0).isLt
    have e : (((Rect.unit (s := S8x4x256x512) ![s, 0, 0, 0] S1x4x256x512.size h).emb y 0).val) = s := by
      rw [Rect.emb_apply]; show s + 1 * (y 0).val = s; omega
    unfold full slotVec inSlot
    rw [e]
    refine congrArg _ (funext fun a => Fin.ext ?_)
    rw [Rect.emb_apply]
    fin_cases a <;> exact (Nat.zero_add _ |>.trans (Nat.one_mul _)).symm

/-- Loading half a slot. -/
theorem step_load_half {α : Type} {Q : α → sProp 𝕄} {s lo : ℕ} (hlo : lo + 2 ≤ 4) (d : Dev nD) (hd : owner c s = d) {h} {hl} {q : PosShare TreeShare}
    {k' : _ → Prog (TpuEff nD τ sig (Elt F) Λ₀ .tc) α} :
    scr c (piece s lo 2) q (full W c)
      ⊢ iprop((scr c (piece s lo 2) q (full W c) -∗ WP c (k' (halfVec lo hlo (W d))) Q)
          -∗ WP c (.op (.load scrM (Rect.unit (s := S8x4x256x512) ![s, lo, 0, 0] S1x2x256x512.size h).toLoadRect hl) k') Q) :=
  step_load c rfl _ fun y => by
    subst hd
    have h0 : (y 0).val < 1 := (y 0).isLt
    have e : (((Rect.unit (s := S8x4x256x512) ![s, lo, 0, 0] S1x2x256x512.size h).emb y 0).val) = s := by
      rw [Rect.emb_apply]; show s + 1 * (y 0).val = s; omega
    unfold full halfVec inSlot
    rw [e]
    refine congrArg _ (funext fun a => Fin.ext ?_)
    rw [Rect.emb_apply]
    fin_cases a <;> exact congrArg (_ + ·) (Nat.one_mul _).symm

/-- Storing the device's own experts into slot 0. -/
theorem step_store_own {α : Type} {Q : α → sProp 𝕄} {f : S8x4x256x512.Idx → Elt F .bf16} {w : S1x4x256x512.Idx → Elt F .bf16}
    (hw : w = slotVec (W c)) {h} {hx} {hm} {k' : PUnit → Prog (TpuEff nD τ sig (Elt F) Λ₀ .tc) α} :
    scr c (piece 0 0 4) fullShare f
      ⊢ iprop((scr c (piece 0 0 4) fullShare (full W c) -∗ WP c (k' ⟨⟩) Q)
          -∗ WP c (.op (.store scrM (Rect.unit (s := S8x4x256x512) ![0, 0, 0, 0] S1x4x256x512.size h) w Finset.univ hx hm) k') Q) := by
  subst hw
  have hset : (scrM.access (Rect.unit (s := S8x4x256x512) ![0, 0, 0, 0] S1x4x256x512.size h)).set = piece 0 0 4 :=
    (View.set_slice_whole _ _).trans (rect_piece rfl h)
  have hval : ∀ i ∈ piece 0 0 4, (scrM.access (Rect.unit (s := S8x4x256x512) ![0, 0, 0, 0] S1x4x256x512.size h)).write (Elt F) f
      (slotVec (W c)) Finset.univ i = full W c i := by
    intro i hi
    rw [← hset] at hi
    obtain ⟨y, -, rfl⟩ := Finset.mem_map.mp hi
    rw [View.write_emb_of_mem _ _ (Finset.mem_univ y)]
    have h0 : (y 0).val < 1 := (y 0).isLt
    show slotVec (W c) y = full W c ((Rect.unit (s := S8x4x256x512) ![0, 0, 0, 0] S1x4x256x512.size h).emb y)
    have e : (((Rect.unit (s := S8x4x256x512) ![0, 0, 0, 0] S1x4x256x512.size h).emb y 0).val) = 0 := by
      rw [Rect.emb_apply]; show 0 + 1 * (y 0).val = 0; omega
    unfold full slotVec inSlot
    rw [e]
    refine congrArg _ (funext fun a => Fin.ext ?_)
    rw [Rect.emb_apply]
    fin_cases a <;> exact (Nat.zero_add _ |>.trans (Nat.one_mul _)).symm
  unfold scr
  iintro H Hk
  iapply (wp_store 𝒱₀ (c : Thread nD τ) none Set.univ (m := scrM)
    (r := Rect.unit (s := S8x4x256x512) ![0, 0, 0, 0] S1x4x256x512.size h) (S := piece 0 0 4) (f := f) hset.le) $$ H
  iintro H
  iapply Hk
  ihave H := (Entails.of_eq (pointsTo_congr hval)) $$ H
  iexact H

/-! ## Splitting and joining what is held of the buffer -/

theorem scr_halves (I : Finset S8x4x256x512.Idx) (q : PosShare TreeShare) (f : S8x4x256x512.Idx → Elt F .bf16) :
    scr c I q f ⊢ iprop(scr c I q.left f ∗ scr c I q.right f) := by
  unfold scr; exact (pointsTo_share (PosShare.mem_left_op_right q)).1
theorem scr_whole (I : Finset S8x4x256x512.Idx) (q : PosShare TreeShare) (f : S8x4x256x512.Idx → Elt F .bf16) :
    iprop(scr c I q.left f ∗ scr c I q.right f) ⊢ scr c I q f := by
  unfold scr; exact (pointsTo_share (PosShare.mem_left_op_right q)).2
theorem scr_split (s : ℕ) (q : PosShare TreeShare) (f : S8x4x256x512.Idx → Elt F .bf16) :
    scr c (piece s 0 4) q f ⊢ iprop(scr c (piece s 0 2) q f ∗ scr c (piece s 2 2) q f) := by
  unfold scr; rw [piece_union (a := 2) (b := 2)]
  exact (pointsTo_union (piece_disjoint (by omega))).1
theorem scr_join (s : ℕ) (q : PosShare TreeShare) (f : S8x4x256x512.Idx → Elt F .bf16) :
    iprop(scr c (piece s 0 2) q f ∗ scr c (piece s 2 2) q f) ⊢ scr c (piece s 0 4) q f := by
  unfold scr; rw [piece_union (a := 2) (b := 2)]
  exact (pointsTo_union (piece_disjoint (by omega))).2

end Steps
end

end Cert.Moe

end
-- ==== Proof.Parts.lean ====
/-
# The kernel part by part

The kernel's body is printed in parts. For each part, what it takes, what it returns and what it leaves; the resources
it does not touch are not mentioned.
-/
module

public import proofs.«01_k».proof.Proof.Steps

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The numbers the kernel computes -/

/-- The device's number, and those of its right, left, opposite and facing device, as the kernel computes them. -/
abbrev wMe (c : Dev nD) : BitVec 32 := Scalar.remsi (Scalar.divsi (Dev.word c) 1#32) 8#32
abbrev wRow (c : Dev nD) : BitVec 32 := Scalar.remsi (wMe c) 4#32
abbrev wBase (c : Dev nD) : BitVec 32 := Scalar.subi (wMe c) (wRow c)
abbrev wRight (c : Dev nD) : BitVec 32 := Scalar.addi (wBase c) (Scalar.remsi (Scalar.addi (wRow c) 1#32) 4#32)
abbrev wLeft (c : Dev nD) : BitVec 32 := Scalar.addi (wBase c) (Scalar.remsi (Scalar.addi (wRow c) 3#32) 4#32)
abbrev wAcross (c : Dev nD) : BitVec 32 := Scalar.remsi (Scalar.addi (wMe c) 4#32) 8#32
abbrev wFacing (c : Dev nD) : BitVec 32 := Scalar.addi (wBase c) (Scalar.remsi (Scalar.addi (wRow c) 2#32) 4#32)
/-- The number of the device opposite the one numbered `w`. -/
abbrev wOpp (w : BitVec 32) : BitVec 32 := Scalar.remsi (Scalar.addi w 4#32) 8#32

section
variable (a0 : Memref sig .tc .vmem S1024x256 .bf16) (h0 : a0.IsWhole) (a1 : Memref sig .tc .vmem S256x32 .bf16) (h1 : a1.IsWhole)
  (a2 : Memref sig .tc .vmem S1024x1 .i32) (h2 : a2.IsWhole) (a3 : Memref sig .tc .vmem S4x256x512 .bf16) (h3 : a3.IsWhole)
  (a4 : Memref sig .tc .vmem S256x512 .bf16) (h4 : a4.IsWhole) (a5 : Memref sig .tc .vmem S1024x512 .f32) (h5 : a5.IsWhole)
  (h6 : scrM.IsWhole)
variable (W : Dev nD → WBlock F) (K : Dev nD × CellIx → ℕ) (c : Dev nD)

/-- The three signals and the barrier wait; then the device's own experts are read. -/
theorem part1_spec {Q : _ → sProp 𝕄} {f3 : Buf (Elt F) (a3.view.loc (c : Thread nD τ))} {x3 : WBlock F}
    (hx3 : a3.view.readAt (Elt F) (Rect.unit (s := S4x256x512) ![0, 0, 0] S4x256x512.size inb_S4x256x512_S4x256x512_0_0_0).toLoadRect f3 = x3)
    {f0 : S8x4x256x512.Idx → Elt F .bf16} :
    iprop(records W K ∗ levAts L lv ∗ (∃ Ws, owes (c : Thread nD τ) (owed₀ c) Ws)
        ∗ (dutyTok ER (barCell ((go 0).symm c)) 0 0 ∗ dutyTok ER (barCell ((go 1).symm c)) 0 1 ∗ dutyTok ER (barCell ((go 2).symm c)) 0 2)
        ∗ (barPay (F := F) ((go 0).symm c) 0 ∗ barPay (F := F) ((go 1).symm c) 1 ∗ barPay (F := F) ((go 2).symm c) 2)
        ∗ waitRight (barCell c) 3
        ∗ (a3.view.loc (c : Thread nD τ) ↦[a3.view.set]{fullShare} f3) ∗ scr c (piece 0 0 4) fullShare f0)
      ⊢ iprop((∀ v25, ((due c sendOrder ∗ semVal (barCell c) 0
            ∗ (barPay (F := F) c 0 ∗ barPay (F := F) c 1 ∗ barPay (F := F) c 2)
            ∗ (a3.view.loc (c : Thread nD τ) ↦[a3.view.set]{fullShare} f3) ∗ scr c (piece 0 0 4) fullShare f0)
              -∗ Q ⟨c, wMe c, wRight c, wLeft c, wAcross c, wFacing c, k0_pay1 x3, v25⟩))
          -∗ WP c (k0_part1 a0 h0 a1 h1 a2 h2 a3 h3 a4 h4 a5 h5 scrM h6 cc0_scratch1 cc0_scratch2) Q) := by
  rw [k0_part1_eq_skeleton]; unfold k0_part1_skel
  simp only [semSignalWord, semWaitWord, Prog.lift, Prog.bind_op, Prog.bind_ret, Prog.pure_eq_ret, wp_deviceId]
  iintro ⟨#HR, #Hlev, ⟨%Ws, HO⟩, ⟨Ht0, Ht1, Ht2⟩, ⟨Hp0, Hp1, Hp2⟩, Hw, H3, Hs⟩ Hk
  iapply (step_signal W K c 0 (dev1_eq c) _) $$ [HO Ht0 Hp0]
  · isplitr; · iexact HR
    isplitl [HO]; · iexact HO
    isplitl [Ht0]; · iexact Ht0
    iexact Hp0
  iintro HO
  iapply (step_signal W K c 1 (dev2_eq c) _) $$ [HO Ht1 Hp1]
  · isplitr; · iexact HR
    isplitl [HO]; · iexact HO
    isplitl [Ht1]; · iexact Ht1
    iexact Hp1
  iintro HO
  iapply (step_signal W K c 2 (dev3_eq c) _) $$ [HO Ht2 Hp2]
  · isplitr; · iexact HR
    isplitl [HO]; · iexact HO
    isplitl [Ht2]; · iexact Ht2
    iexact Hp2
  iintro HO
  iapply (step_barrier W K c sendOrder (by decide)) $$ [HO Hw]
  · isplitr; · iexact HR
    isplitr; · iexact Hlev
    isplitl [Hw]; · iexact Hw
    unfold due; iexists Ws; iexact HO
  iintro ⟨HO, Hz, Hp⟩
  iapply (step_load_arg c hx3) $$ H3
  iintro H3
  iapply (step_load c rfl _ (fun _ => rfl)) $$ Hs
  iintro Hs
  iapply (step_ret c)
  iapply Hk
  isplitl [HO]; · iexact HO
  isplitl [Hz]; · iexact Hz
  isplitl [Hp]; · iexact Hp
  isplitl [H3]; · iexact H3
  iexact Hs

/-- The device's own experts go into slot 0, and from there to the right and to the left. -/
theorem part2_spec {Q : _ → sProp 𝕄} {v7 v10 v12 : BitVec 32} {v24 : FVec F S4x256x512 .bf16} {v25} (hv : k0_pay2 v24 = slotVec (W c))
    {f0 : S8x4x256x512.Idx → Elt F .bf16} :
    iprop(records W K ∗ due c sendOrder ∗ scr c (piece 0 0 4) fullShare f0
        ∗ (landPiece (F := F) c 0 ∗ sendToks (F := F) c 0) ∗ (landPiece (F := F) c 3 ∗ sendToks (F := F) c 3))
      ⊢ iprop(((due c [7, 1, 8, 2, 4, 9, 5, 6] ∗ scr c (piece 0 0 4) fullShare.right (full W c)
              ∗ ready (F := F) c false 0 ∗ ready (F := F) c false 3) -∗ Q ⟨⟩)
          -∗ WP c (k0_part2 a0 h0 a1 h1 a2 h2 a3 h3 a4 h4 a5 h5 scrM h6 cc0_scratch1 cc0_scratch2 c v7 v10 v12 v24 v25) Q) := by
  rw [k0_part2_eq_skeleton]; unfold k0_part2_skel
  simp only [Prog.lift, Prog.bind_op, Prog.bind_ret, Prog.pure_eq_ret]
  iintro ⟨#HR, HO, Hs, ⟨Hl0, Ht0⟩, ⟨Hl3, Ht3⟩⟩ Hk
  iapply (step_store_own W c hv) $$ Hs
  iintro Hs
  icases (scr_halves c _ _ _) $$ Hs with ⟨Hsl, Hs⟩
  icases (scr_halves c _ _ _) $$ Hsl with ⟨Hs0, Hs3⟩
  iapply (step_send W K c 0 (dev4_eq c) _ rfl rfl rfl rfl rfl rfl rfl) $$ [HO Hs0 Hl0 Ht0]
  · isplitr; · iexact HR
    isplitl [Hs0]; · iexact Hs0
    isplitl [Hl0]; · iexact Hl0
    isplitl [Ht0]; · iexact Ht0
    iexact HO
  iintro ⟨Hr0, HO⟩
  iapply (step_send W K c 3 (dev5_eq c) _ rfl rfl rfl rfl rfl rfl rfl) $$ [HO Hs3 Hl3 Ht3]
  · isplitr; · iexact HR
    isplitl [Hs3]; · iexact Hs3
    isplitl [Hl3]; · iexact Hl3
    isplitl [Ht3]; · iexact Ht3
    iexact HO
  iintro ⟨Hr3, HO⟩
  iapply (step_ret c)
  iapply Hk
  isplitl [HO]; · iexact HO
  isplitl [Hs]; · iexact Hs
  isplitl [Hr0]; · iexact Hr0
  iexact Hr3

/-- The own experts go to the opposite device; the tokens, the router, the choice of experts and the shared expert are read. -/
theorem part3_spec {Q : _ → sProp 𝕄}
    {v2 : BitVec 32}
    {f0 : Buf (Elt F) (a0.view.loc (c : Thread nD τ))} {x0 : Vec F S1024x256 .bf16}
    (hx0 : a0.view.readAt (Elt F) (Rect.unit (s := S1024x256) ![0, 0] S1024x256.size inb_S1024x256_S1024x256_0_0).toLoadRect f0 = x0)
    {f1 : Buf (Elt F) (a1.view.loc (c : Thread nD τ))} {x1 : Vec F S256x32 .bf16}
    (hx1 : a1.view.readAt (Elt F) (Rect.unit (s := S256x32) ![0, 0] S256x32.size inb_S256x32_S256x32_0_0).toLoadRect f1 = x1)
    {f2 : Buf (Elt F) (a2.view.loc (c : Thread nD τ))} {x2 : Vec F S1024x1 .i32}
    (hx2 : a2.view.readAt (Elt F) (Rect.unit (s := S1024x1) ![0, 0] S1024x1.size inb_S1024x1_S1024x1_0_0).toLoadRect f2 = x2)
    {f4 : Buf (Elt F) (a4.view.loc (c : Thread nD τ))} {x4 : Vec F S256x512 .bf16}
    (hx4 : a4.view.readAt (Elt F) (Rect.unit (s := S256x512) ![0, 0] S256x512.size inb_S256x512_S256x512_0_0).toLoadRect f4 = x4) :
    iprop(records W K ∗ due c [7, 1, 8, 2, 4, 9, 5, 6] ∗ scr c (piece 0 0 4) fullShare.right (full W c) ∗ (landPiece (F := F) c 7 ∗ sendToks (F := F) c 7) ∗ (a0.view.loc (c : Thread nD τ) ↦[a0.view.set]{fullShare} f0) ∗ (a1.view.loc (c : Thread nD τ) ↦[a1.view.set]{fullShare} f1) ∗ (a2.view.loc (c : Thread nD τ) ↦[a2.view.set]{fullShare} f2) ∗ (a4.view.loc (c : Thread nD τ) ↦[a4.view.set]{fullShare} f4))
      ⊢ iprop(((due c [1, 8, 2, 4, 9, 5, 6] ∗ scr c (piece 0 0 4) fullShare.right.right (full W c) ∗ ready (F := F) c false 7 ∗ (a0.view.loc (c : Thread nD τ) ↦[a0.view.set]{fullShare} f0) ∗ (a1.view.loc (c : Thread nD τ) ↦[a1.view.set]{fullShare} f1) ∗ (a2.view.loc (c : Thread nD τ) ↦[a2.view.set]{fullShare} f2) ∗ (a4.view.loc (c : Thread nD τ) ↦[a4.view.set]{fullShare} f4)) -∗ Q ⟨k0_pay4 x2, k0_pay5 x0 x4, k0_pay6 x0 x1 x2, k0_pay7 (F := F), Scalar.muli v2 4#32⟩)
          -∗ WP c (k0_part3 a0 h0 a1 h1 a2 h2 a3 h3 a4 h4 a5 h5 scrM h6 cc0_scratch1 cc0_scratch2 c v2) Q) := by
  rw [k0_part3_eq_skeleton]; unfold k0_part3_skel
  simp only [Prog.lift, Prog.bind_op, Prog.bind_ret, Prog.pure_eq_ret]
  iintro ⟨#HR, HO, Hs, ⟨Hl7, Ht7⟩, H0, H1, H2, H4⟩ Hk
  icases (scr_halves c _ _ _) $$ Hs with ⟨Hs7, Hs⟩
  iapply (step_send W K c 7 (dev6_eq c) _ rfl rfl rfl rfl rfl rfl rfl) $$ [HO Hs7 Hl7 Ht7]
  · isplitr; · iexact HR
    isplitl [Hs7]; · iexact Hs7
    isplitl [Hl7]; · iexact Hl7
    isplitl [Ht7]; · iexact Ht7
    iexact HO
  iintro ⟨Hr7, HO⟩
  iapply (step_load_arg c hx0) $$ H0
  iintro H0
  iapply (step_load_arg c hx1) $$ H1
  iintro H1
  iapply (step_load_arg c hx2) $$ H2
  iintro H2
  iapply (step_load_arg c hx4) $$ H4
  iintro H4
  iapply (step_ret c)
  iapply Hk
  isplitl [HO]; · iexact HO
  isplitl [Hs]; · iexact Hs
  isplitl [Hr7]; · iexact Hr7
  isplitl [H0]; · iexact H0
  isplitl [H1]; · iexact H1
  isplitl [H2]; · iexact H2
  iexact H4

/-- Slot 0 is read: what the device's own experts add. -/
theorem part4_spec {Q : _ → sProp 𝕄} {v73 : IVec S1024x1 32} {v83 : FVec F S1024x512 .f32} {v87 v88 : FVec F S1024x256 .bf16} {v7 v10 v15 v89 : BitVec 32} :
    scr c (piece 0 0 4) fullShare.right.right (full W c)
      ⊢ iprop(((scr c (piece 0 0 4) fullShare.right.right (full W c)) -∗ Q ⟨k0_pay8 v73 v83 v87 v88 v89 (slotVec (W c)), wOpp v15, wOpp v10, wOpp v7, Scalar.muli v7 1#32, 0#32⟩)
          -∗ WP c (k0_part4 a0 h0 a1 h1 a2 h2 a3 h3 a4 h4 a5 h5 scrM h6 cc0_scratch1 cc0_scratch2 v7 v10 v15 v73 v83 v87 v88 v89) Q) := by
  rw [k0_part4_eq_skeleton]; unfold k0_part4_skel
  simp only [Prog.lift, Prog.bind_op, Prog.bind_ret, Prog.pure_eq_ret]
  iintro Hs Hk
  iapply (step_load_slot W c c rfl) $$ Hs
  iintro Hs
  iapply (step_ret c)
  iapply Hk
  iexact Hs

/-- Slot 1 has landed: it goes on to the right, its second half also across. -/
theorem part5_spec {Q : _ → sProp 𝕄} {v7 v12 v127 w : BitVec 32} :
    iprop(records W K ∗ levAts L lv ∗ due c [1, 8, 2, 4, 9, 5, 6] ∗ ready (F := F) c true 0 ∗ (landPiece (F := F) c 1 ∗ sendToks (F := F) c 1) ∗ (landPiece (F := F) c 8 ∗ sendToks (F := F) c 8))
      ⊢ iprop(((due c [2, 4, 9, 5, 6] ∗ shut (F := F) c true 0 ∗ scr c (piece 1 0 2) fullShare.right.left (full W c) ∗ scr c (piece 1 0 4) fullShare.right.right (full W c) ∗ ready (F := F) c false 1 ∗ ready (F := F) c false 8) -∗ Q ⟨⟩)
          -∗ WP c (k0_part5 a0 h0 a1 h1 a2 h2 a3 h3 a4 h4 a5 h5 scrM h6 cc0_scratch1 cc0_scratch2 c v7 v12 v127 w) Q) := by
  rw [k0_part5_eq_skeleton]; unfold k0_part5_skel
  simp only [Prog.lift, Prog.bind_op, Prog.bind_ret, Prog.pure_eq_ret]
  iintro ⟨#HR, #Hlev, HO, Hw0, ⟨Hl1, Ht1⟩, ⟨Hl8, Ht8⟩⟩ Hk
  iapply (step_wait_slot W K c 0 true [1, 8, 2, 4, 9, 5, 6] (by decide) rfl
      (P := scr c (piece 1 0 4) fullShare (full W c)) rfl rfl) $$ [HO Hw0]
  · isplitr; · iexact HR
    isplitr; · iexact Hlev
    isplitl [Hw0]; · iexact Hw0
    iexact HO
  iintro ⟨HO, Hz0, Hp⟩
  icases (scr_halves c _ _ _) $$ Hp with ⟨Hs1, Hp⟩
  iapply (step_send W K c 1 (dev7_eq c) _ rfl rfl rfl rfl rfl rfl rfl) $$ [HO Hs1 Hl1 Ht1]
  · isplitr; · iexact HR
    isplitl [Hs1]; · iexact Hs1
    isplitl [Hl1]; · iexact Hl1
    isplitl [Ht1]; · iexact Ht1
    iexact HO
  iintro ⟨Hr1, HO⟩
  icases (scr_halves c _ _ _) $$ Hp with ⟨Hh, Hp⟩
  icases (scr_split c _ _ _) $$ Hh with ⟨Ha, Hs8⟩
  iapply (step_send W K c 8 (dev8_eq c) _ rfl rfl rfl rfl rfl rfl rfl) $$ [HO Hs8 Hl8 Ht8]
  · isplitr; · iexact HR
    isplitl [Hs8]; · iexact Hs8
    isplitl [Hl8]; · iexact Hl8
    isplitl [Ht8]; · iexact Ht8
    iexact HO
  iintro ⟨Hr8, HO⟩
  iapply (step_ret c)
  iapply Hk
  isplitl [HO]; · iexact HO
  isplitl [Hz0]; · iexact Hz0
  isplitl [Ha]; · iexact Ha
  isplitl [Hp]; · iexact Hp
  isplitl [Hr1]; · iexact Hr1
  iexact Hr8

/-- Slot 4 has landed: its first half goes on to the right. -/
theorem part6_spec {Q : _ → sProp 𝕄} {v7 v10 v12 : BitVec 32} :
    iprop(records W K ∗ levAts L lv ∗ due c [2, 4, 9, 5, 6] ∗ ready (F := F) c true 7 ∗ (landPiece (F := F) c 2 ∗ sendToks (F := F) c 2))
      ⊢ iprop(((due c [4, 9, 5, 6] ∗ shut (F := F) c true 7 ∗ scr c (piece 4 2 2) fullShare.left (full W c) ∗ scr c (piece 4 0 4) fullShare.right (full W c) ∗ ready (F := F) c false 2) -∗ Q ⟨⟩)
          -∗ WP c (k0_part6 a0 h0 a1 h1 a2 h2 a3 h3 a4 h4 a5 h5 scrM h6 cc0_scratch1 cc0_scratch2 c v7 v10 v12) Q) := by
  rw [k0_part6_eq_skeleton]; unfold k0_part6_skel
  simp only [Prog.lift, Prog.bind_op, Prog.bind_ret, Prog.pure_eq_ret]
  iintro ⟨#HR, #Hlev, HO, Hw7, ⟨Hl2, Ht2⟩⟩ Hk
  iapply (step_wait_slot W K c 7 true [2, 4, 9, 5, 6] (by decide) rfl
      (P := scr c (piece 4 0 4) fullShare (full W c)) rfl rfl) $$ [HO Hw7]
  · isplitr; · iexact HR
    isplitr; · iexact Hlev
    isplitl [Hw7]; · iexact Hw7
    iexact HO
  iintro ⟨HO, Hz7, Hp⟩
  icases (scr_halves c _ _ _) $$ Hp with ⟨Hh, Hp⟩
  icases (scr_split c _ _ _) $$ Hh with ⟨Hs2, Hb⟩
  iapply (step_send W K c 2 (dev9_eq c) _ rfl rfl rfl rfl rfl rfl rfl) $$ [HO Hs2 Hl2 Ht2]
  · isplitr; · iexact HR
    isplitl [Hs2]; · iexact Hs2
    isplitl [Hl2]; · iexact Hl2
    isplitl [Ht2]; · iexact Ht2
    iexact HO
  iintro ⟨Hr2, HO⟩
  iapply (step_ret c)
  iapply Hk
  isplitl [HO]; · iexact HO
  isplitl [Hz7]; · iexact Hz7
  isplitl [Hb]; · iexact Hb
  isplitl [Hp]; · iexact Hp
  iexact Hr2

/-- The first half of slot 4 goes on to the left; slot 5 has landed, and its second half goes across. -/
theorem part7_spec {Q : _ → sProp 𝕄} {v10 v12 : BitVec 32} {v73 : IVec S1024x1 32} :
    iprop(records W K ∗ levAts L lv ∗ due c [4, 9, 5, 6] ∗ scr c (piece 4 0 4) fullShare.right (full W c) ∗ (landPiece (F := F) c 4 ∗ sendToks (F := F) c 4) ∗ ready (F := F) c true 3 ∗ (landPiece (F := F) c 9 ∗ sendToks (F := F) c 9))
      ⊢ iprop(((due c [5, 6] ∗ scr c (piece 4 2 2) fullShare.right.left (full W c) ∗ scr c (piece 4 0 4) fullShare.right.right (full W c) ∗ ready (F := F) c false 4 ∗ shut (F := F) c true 3 ∗ scr c (piece 5 0 2) fullShare.left (full W c) ∗ scr c (piece 5 0 4) fullShare.right (full W c) ∗ ready (F := F) c false 9) -∗ Q ⟨Scalar.addi (Scalar.muli v10 4#32) 0#32, k0_pay9 v10 v73⟩)
          -∗ WP c (k0_part7 a0 h0 a1 h1 a2 h2 a3 h3 a4 h4 a5 h5 scrM h6 cc0_scratch1 cc0_scratch2 c v10 v12 v73) Q) := by
  rw [k0_part7_eq_skeleton]; unfold k0_part7_skel
  simp only [Prog.lift, Prog.bind_op, Prog.bind_ret, Prog.pure_eq_ret]
  iintro ⟨#HR, #Hlev, HO, Hq, ⟨Hl4, Ht4⟩, Hw3, ⟨Hl9, Ht9⟩⟩ Hk
  icases (scr_halves c _ _ _) $$ Hq with ⟨Hh, Hq⟩
  icases (scr_split c _ _ _) $$ Hh with ⟨Hs4, Hb⟩
  iapply (step_send W K c 4 (dev10_eq c) _ rfl rfl rfl rfl rfl rfl rfl) $$ [HO Hs4 Hl4 Ht4]
  · isplitr; · iexact HR
    isplitl [Hs4]; · iexact Hs4
    isplitl [Hl4]; · iexact Hl4
    isplitl [Ht4]; · iexact Ht4
    iexact HO
  iintro ⟨Hr4, HO⟩
  iapply (step_wait_slot W K c 3 true [9, 5, 6] (by decide) rfl
      (P := scr c (piece 5 0 4) fullShare (full W c)) rfl rfl) $$ [HO Hw3]
  · isplitr; · iexact HR
    isplitr; · iexact Hlev
    isplitl [Hw3]; · iexact Hw3
    iexact HO
  iintro ⟨HO, Hz3, Hp⟩
  icases (scr_halves c _ _ _) $$ Hp with ⟨Hh, Hp⟩
  icases (scr_split c _ _ _) $$ Hh with ⟨Ha, Hs9⟩
  iapply (step_send W K c 9 (dev11_eq c) _ rfl rfl rfl rfl rfl rfl rfl) $$ [HO Hs9 Hl9 Ht9]
  · isplitr; · iexact HR
    isplitl [Hs9]; · iexact Hs9
    isplitl [Hl9]; · iexact Hl9
    isplitl [Ht9]; · iexact Ht9
    iexact HO
  iintro ⟨Hr9, HO⟩
  iapply (step_ret c)
  iapply Hk
  isplitl [HO]; · iexact HO
  isplitl [Hb]; · iexact Hb
  isplitl [Hq]; · iexact Hq
  isplitl [Hr4]; · iexact Hr4
  isplitl [Hz3]; · iexact Hz3
  isplitl [Ha]; · iexact Ha
  isplitl [Hp]; · iexact Hp
  iexact Hr9

/-- Slot 1 is read. -/
theorem part8_spec {Q : _ → sProp 𝕄} {v7 v202 : BitVec 32} {v73 : IVec S1024x1 32} {v87 v88 : FVec F S1024x256 .bf16} {v120 : FVec F S1024x512 .f32} {v206 : IVec S1024x1 1} :
    scr c (piece 1 0 4) fullShare.right.right (full W c)
      ⊢ iprop(((scr c (piece 1 0 4) fullShare.right.right (full W c)) -∗ Q ⟨k0_pay10 v73 v87 v88 v120 v202 v206 (slotVec (W (left c))), Scalar.addi (Scalar.muli v7 4#32) 0#32, k0_pay11 v7 v73 v87 v88, k0_pay12 v7 v73 v87 v88, k0_pay13 v7 v73 v87 v88, 3#32⟩)
          -∗ WP c (k0_part8 a0 h0 a1 h1 a2 h2 a3 h3 a4 h4 a5 h5 scrM h6 cc0_scratch1 cc0_scratch2 v7 v73 v87 v88 v120 v202 v206) Q) := by
  rw [k0_part8_eq_skeleton]; unfold k0_part8_skel
  simp only [Prog.lift, Prog.bind_op, Prog.bind_ret, Prog.pure_eq_ret]
  iintro Hs Hk
  iapply (step_load_slot W c (left c) rfl) $$ Hs
  iintro Hs
  iapply (step_ret c)
  iapply Hk
  iexact Hs

/-- Slots 5 and 4 are read. -/
theorem part9_spec {Q : _ → sProp 𝕄} {v12 v234 w : BitVec 32} {v73 : IVec S1024x1 32} {v87 v88 v240 v246 v252 : FVec F S1024x256 .bf16} {v232 : FVec F S1024x512 .f32} :
    iprop(scr c (piece 5 0 4) fullShare.right (full W c) ∗ scr c (piece 4 0 4) fullShare.right.right (full W c))
      ⊢ iprop(((scr c (piece 5 0 4) fullShare.right (full W c) ∗ scr c (piece 4 0 4) fullShare.right.right (full W c)) -∗ Q (k0_pay14 v12 v73 v87 v88 v232 v234 v240 v246 v252 w (slotVec (W (right c))) (slotVec (W (across c)))))
          -∗ WP c (k0_part9 a0 h0 a1 h1 a2 h2 a3 h3 a4 h4 a5 h5 scrM h6 cc0_scratch1 cc0_scratch2 v12 v73 v87 v88 v232 v234 v240 v246 v252 w) Q) := by
  rw [k0_part9_eq_skeleton]; unfold k0_part9_skel
  simp only [Prog.lift, Prog.bind_op, Prog.bind_ret, Prog.pure_eq_ret]
  iintro ⟨H5, H4⟩ Hk
  iapply (step_load_slot W c (right c) rfl) $$ H5
  iintro H5
  iapply (step_load_slot W c (across c) rfl) $$ H4
  iintro H4
  iapply (step_ret c)
  iapply Hk
  isplitl [H5]; · iexact H5
  iexact H4

/-- The second half of slot 2 has landed and is read. -/
theorem part10_spec {Q : _ → sProp 𝕄} {v10 v12 v124 : BitVec 32} {v73 : IVec S1024x1 32} {v87 v88 : FVec F S1024x256 .bf16} {v296 : FVec F S1024x512 .f32} :
    iprop(records W K ∗ levAts L lv ∗ due c [5, 6] ∗ ready (F := F) c true 8)
      ⊢ iprop(((due c [5, 6] ∗ shut (F := F) c true 8 ∗ scr c (piece 2 2 2) fullShare (full W c)) -∗ Q (k0_pay15 v73 v87 v88 v124 v296 (halfVec 2 (by decide) (W (left (across c))))))
          -∗ WP c (k0_part10 a0 h0 a1 h1 a2 h2 a3 h3 a4 h4 a5 h5 scrM h6 cc0_scratch1 cc0_scratch2 v10 v12 v73 v87 v88 v124 v296) Q) := by
  rw [k0_part10_eq_skeleton]; unfold k0_part10_skel
  simp only [Prog.lift, Prog.bind_op, Prog.bind_ret, Prog.pure_eq_ret]
  iintro ⟨#HR, #Hlev, HO, Hw8⟩ Hk
  iapply (step_wait_half W K c 8 true [5, 6] (by decide) rfl
      (P := scr c (piece 2 2 2) fullShare (full W c)) rfl rfl) $$ [HO Hw8]
  · isplitr; · iexact HR
    isplitr; · iexact Hlev
    isplitl [Hw8]; · iexact Hw8
    iexact HO
  iintro ⟨HO, Hz8, Hp⟩
  iapply (step_load_half W c (s := 2) (lo := 2) (by decide) (left (across c)) rfl) $$ Hp
  iintro Hp
  iapply (step_ret c)
  iapply Hk
  isplitl [HO]; · iexact HO
  isplitl [Hz8]; · iexact Hz8
  iexact Hp

/-- The first half of slot 6 has landed: it goes on to the left, and is read. -/
theorem part11_spec {Q : _ → sProp 𝕄} {v10 v126 : BitVec 32} {v73 : IVec S1024x1 32} {v87 v88 : FVec F S1024x256 .bf16} :
    iprop(records W K ∗ levAts L lv ∗ due c [5, 6] ∗ ready (F := F) c true 4 ∗ (landPiece (F := F) c 5 ∗ sendToks (F := F) c 5))
      ⊢ iprop(((due c [6] ∗ shut (F := F) c true 4 ∗ scr c (piece 6 0 2) fullShare.right (full W c) ∗ ready (F := F) c false 5) -∗ Q ⟨k0_pay16 v73 v87 v88 v126, k0_pay17 (halfVec 0 (by decide) (W (right (across c))))⟩)
          -∗ WP c (k0_part11 a0 h0 a1 h1 a2 h2 a3 h3 a4 h4 a5 h5 scrM h6 cc0_scratch1 cc0_scratch2 c v10 v73 v87 v88 v126) Q) := by
  rw [k0_part11_eq_skeleton]; unfold k0_part11_skel
  simp only [Prog.lift, Prog.bind_op, Prog.bind_ret, Prog.pure_eq_ret]
  iintro ⟨#HR, #Hlev, HO, Hw4, ⟨Hl5, Ht5⟩⟩ Hk
  iapply (step_wait_half W K c 4 true [5, 6] (by decide) rfl
      (P := scr c (piece 6 0 2) fullShare (full W c)) rfl rfl) $$ [HO Hw4]
  · isplitr; · iexact HR
    isplitr; · iexact Hlev
    isplitl [Hw4]; · iexact Hw4
    iexact HO
  iintro ⟨HO, Hz4, Hp⟩
  icases (scr_halves c _ _ _) $$ Hp with ⟨Hs5, Hp⟩
  iapply (step_send W K c 5 (dev12_eq c) _ rfl rfl rfl rfl rfl rfl rfl) $$ [HO Hs5 Hl5 Ht5]
  · isplitr; · iexact HR
    isplitl [Hs5]; · iexact Hs5
    isplitl [Hl5]; · iexact Hl5
    isplitl [Ht5]; · iexact Ht5
    iexact HO
  iintro ⟨Hr5, HO⟩
  iapply (step_load_half W c (s := 6) (lo := 0) (by decide) (right (across c)) rfl) $$ Hp
  iintro Hp
  iapply (step_ret c)
  iapply Hk
  isplitl [HO]; · iexact HO
  isplitl [Hz4]; · iexact Hz4
  isplitl [Hp]; · iexact Hp
  iexact Hr5

/-- The second half of slot 6 has landed and goes on to the left. -/
theorem part12_spec {Q : _ → sProp 𝕄} {v10 v12 v126 : BitVec 32} {v73 : IVec S1024x1 32} {v87 v88 : FVec F S1024x256 .bf16} {v324 : FVec F S1024x512 .f32} {v357 : FVec F S1024x512 .bf16} {v360 : FVec F S512x512 .bf16} :
    iprop(records W K ∗ levAts L lv ∗ due c [6] ∗ ready (F := F) c true 9 ∗ (landPiece (F := F) c 6 ∗ sendToks (F := F) c 6))
      ⊢ iprop(((due c [] ∗ shut (F := F) c true 9 ∗ scr c (piece 6 2 2) fullShare.right (full W c) ∗ ready (F := F) c false 6) -∗ Q ⟨k0_pay18 v324 v357 v360, k0_pay19 v73 v87 v88 v126, Scalar.addi (Scalar.addi (Scalar.muli v126 4#32) 2#32) 1#32⟩)
          -∗ WP c (k0_part12 a0 h0 a1 h1 a2 h2 a3 h3 a4 h4 a5 h5 scrM h6 cc0_scratch1 cc0_scratch2 c v10 v12 v73 v87 v88 v126 v324 v357 v360) Q) := by
  rw [k0_part12_eq_skeleton]; unfold k0_part12_skel
  simp only [Prog.lift, Prog.bind_op, Prog.bind_ret, Prog.pure_eq_ret]
  iintro ⟨#HR, #Hlev, HO, Hw9, ⟨Hl6, Ht6⟩⟩ Hk
  iapply (step_wait_half W K c 9 true [6] (by decide) rfl
      (P := scr c (piece 6 2 2) fullShare (full W c)) rfl rfl) $$ [HO Hw9]
  · isplitr; · iexact HR
    isplitr; · iexact Hlev
    isplitl [Hw9]; · iexact Hw9
    iexact HO
  iintro ⟨HO, Hz9, Hp⟩
  icases (scr_halves c _ _ _) $$ Hp with ⟨Hs6, Hp⟩
  iapply (step_send W K c 6 (dev13_eq c) _ rfl rfl rfl rfl rfl rfl rfl) $$ [HO Hs6 Hl6 Ht6]
  · isplitr; · iexact HR
    isplitl [Hs6]; · iexact Hs6
    isplitl [Hl6]; · iexact Hl6
    isplitl [Ht6]; · iexact Ht6
    iexact HO
  iintro ⟨Hr6, HO⟩
  iapply (step_ret c)
  iapply Hk
  isplitl [HO]; · iexact HO
  isplitl [Hz9]; · iexact Hz9
  isplitl [Hp]; · iexact Hp
  iexact Hr6

/-- The second half of slot 6 is read; slot 3 has landed. -/
theorem part13_spec {Q : _ → sProp 𝕄} {v7 v15 v389 : BitVec 32} {v73 : IVec S1024x1 32} {v87 v88 v388 : FVec F S1024x256 .bf16} {v362 : FVec F S1024x512 .f32} :
    iprop(records W K ∗ levAts L lv ∗ due c [] ∗ scr c (piece 6 2 2) fullShare.right (full W c) ∗ ready (F := F) c true 1)
      ⊢ iprop(((due c [] ∗ scr c (piece 6 2 2) fullShare.right (full W c) ∗ shut (F := F) c true 1 ∗ scr c (piece 3 0 4) fullShare (full W c)) -∗ Q ⟨k0_pay20 v73 v87 v88 v362 v388 v389 (halfVec 2 (by decide) (W (right (across c)))), Scalar.addi (Scalar.muli v15 4#32) 0#32, k0_pay21 v15 v73 v87 v88, k0_pay22 v15 v73 v87 v88, k0_pay23 v15 v73⟩)
          -∗ WP c (k0_part13 a0 h0 a1 h1 a2 h2 a3 h3 a4 h4 a5 h5 scrM h6 cc0_scratch1 cc0_scratch2 v7 v15 v73 v87 v88 v362 v388 v389) Q) := by
  rw [k0_part13_eq_skeleton]; unfold k0_part13_skel
  simp only [Prog.lift, Prog.bind_op, Prog.bind_ret, Prog.pure_eq_ret]
  iintro ⟨#HR, #Hlev, HO, Hq, Hw1⟩ Hk
  iapply (step_load_half W c (s := 6) (lo := 2) (by decide) (right (across c)) rfl) $$ Hq
  iintro Hq
  iapply (step_wait_slot W K c 1 true [] (by decide) rfl
      (P := scr c (piece 3 0 4) fullShare (full W c)) rfl rfl) $$ [HO Hw1]
  · isplitr; · iexact HR
    isplitr; · iexact Hlev
    isplitl [Hw1]; · iexact Hw1
    iexact HO
  iintro ⟨HO, Hz1, Hp⟩
  iapply (step_ret c)
  iapply Hk
  isplitl [HO]; · iexact HO
  isplitl [Hq]; · iexact Hq
  isplitl [Hz1]; · iexact Hz1
  iexact Hp

/-- Slot 3 is read; the first half of slot 7 has landed. -/
theorem part14_spec {Q : _ → sProp 𝕄} {v10 v122 v410 : BitVec 32} {v73 : IVec S1024x1 32} {v87 v88 v416 v422 : FVec F S1024x256 .bf16} {v400 : FVec F S1024x512 .f32} {v426 : IVec S1024x1 1} :
    iprop(records W K ∗ levAts L lv ∗ due c [] ∗ scr c (piece 3 0 4) fullShare (full W c) ∗ ready (F := F) c true 5)
      ⊢ iprop(((due c [] ∗ scr c (piece 3 0 4) fullShare (full W c) ∗ shut (F := F) c true 5 ∗ scr c (piece 7 0 2) fullShare (full W c)) -∗ Q ⟨k0_pay24 v73 v87 v88 v400 v410 v416 v422 v426 (slotVec (W (facing c))), k0_pay25 v73 v87 v88 v122⟩)
          -∗ WP c (k0_part14 a0 h0 a1 h1 a2 h2 a3 h3 a4 h4 a5 h5 scrM h6 cc0_scratch1 cc0_scratch2 v10 v73 v87 v88 v122 v400 v410 v416 v422 v426) Q) := by
  rw [k0_part14_eq_skeleton]; unfold k0_part14_skel
  simp only [Prog.lift, Prog.bind_op, Prog.bind_ret, Prog.pure_eq_ret]
  iintro ⟨#HR, #Hlev, HO, Hq, Hw5⟩ Hk
  iapply (step_load_slot W c (facing c) rfl) $$ Hq
  iintro Hq
  iapply (step_wait_half W K c 5 true [] (by decide) rfl
      (P := scr c (piece 7 0 2) fullShare (full W c)) rfl rfl) $$ [HO Hw5]
  · isplitr; · iexact HR
    isplitr; · iexact Hlev
    isplitl [Hw5]; · iexact Hw5
    iexact HO
  iintro ⟨HO, Hz5, Hp⟩
  iapply (step_ret c)
  iapply Hk
  isplitl [HO]; · iexact HO
  isplitl [Hq]; · iexact Hq
  isplitl [Hz5]; · iexact Hz5
  iexact Hp

/-- The first half of slot 7 is read; the first half of slot 2 has landed and is read. -/
theorem part15_spec {Q : _ → sProp 𝕄} {v7 v124 : BitVec 32} {v73 : IVec S1024x1 32} {v87 v88 : FVec F S1024x256 .bf16} {v440 : FVec F S1024x512 .f32} {v463 : FVec F S1024x512 .bf16} :
    iprop(records W K ∗ levAts L lv ∗ due c [] ∗ scr c (piece 7 0 2) fullShare (full W c) ∗ ready (F := F) c true 2)
      ⊢ iprop(((due c [] ∗ scr c (piece 7 0 2) fullShare (full W c) ∗ shut (F := F) c true 2 ∗ scr c (piece 2 0 2) fullShare (full W c)) -∗ Q (k0_pay26 v73 v87 v88 v124 v440 v463 (halfVec 0 (by decide) (W (facing (across c)))) (halfVec 0 (by decide) (W (left (across c))))))
          -∗ WP c (k0_part15 a0 h0 a1 h1 a2 h2 a3 h3 a4 h4 a5 h5 scrM h6 cc0_scratch1 cc0_scratch2 v7 v73 v87 v88 v124 v440 v463) Q) := by
  rw [k0_part15_eq_skeleton]; unfold k0_part15_skel
  simp only [Prog.lift, Prog.bind_op, Prog.bind_ret, Prog.pure_eq_ret]
  iintro ⟨#HR, #Hlev, HO, Hq, Hw2⟩ Hk
  iapply (step_load_half W c (s := 7) (lo := 0) (by decide) (facing (across c)) rfl) $$ Hq
  iintro Hq
  iapply (step_wait_half W K c 2 true [] (by decide) rfl
      (P := scr c (piece 2 0 2) fullShare (full W c)) rfl rfl) $$ [HO Hw2]
  · isplitr; · iexact HR
    isplitr; · iexact Hlev
    isplitl [Hw2]; · iexact Hw2
    iexact HO
  iintro ⟨HO, Hz2, Hp⟩
  iapply (step_load_half W c (s := 2) (lo := 0) (by decide) (left (across c)) rfl) $$ Hp
  iintro Hp
  iapply (step_ret c)
  iapply Hk
  isplitl [HO]; · iexact HO
  isplitl [Hq]; · iexact Hq
  isplitl [Hz2]; · iexact Hz2
  iexact Hp

/-- The second half of slot 7 has landed and is read, and the result is stored. -/
theorem part16_spec {Q : _ → sProp 𝕄} {v10 v122 : BitVec 32} {v73 : IVec S1024x1 32} {v87 v88 : FVec F S1024x256 .bf16} {v496 : FVec F S1024x512 .f32}
    {f5 g5 : Buf (Elt F) (a5.view.loc (c : Thread nD τ))}
    (hg : (a5.access (Rect.unit (s := S1024x512) ![0, 0] S1024x512.size inb_S1024x512_S1024x512_0_0)).write (Elt F) f5
      (k0_pay27 v73 v87 v88 v122 v496 (halfVec 2 (by decide) (W (facing (across c))))) Finset.univ = g5) :
    iprop(records W K ∗ levAts L lv ∗ due c [] ∗ ready (F := F) c true 6 ∗ (a5.view.loc (c : Thread nD τ) ↦[a5.view.set]{fullShare} f5))
      ⊢ iprop(((due c [] ∗ shut (F := F) c true 6 ∗ scr c (piece 7 2 2) fullShare (full W c) ∗ (a5.view.loc (c : Thread nD τ) ↦[a5.view.set]{fullShare} g5)) -∗ Q ⟨⟩)
          -∗ WP c (k0_part16 a0 h0 a1 h1 a2 h2 a3 h3 a4 h4 a5 h5 scrM h6 cc0_scratch1 cc0_scratch2 v10 v73 v87 v88 v122 v496) Q) := by
  rw [k0_part16_eq_skeleton]; unfold k0_part16_skel
  simp only [Prog.lift, Prog.bind_op, Prog.bind_ret, Prog.pure_eq_ret]
  iintro ⟨#HR, #Hlev, HO, Hw6, H5⟩ Hk
  iapply (step_wait_half W K c 6 true [] (by decide) rfl
      (P := scr c (piece 7 2 2) fullShare (full W c)) rfl rfl) $$ [HO Hw6]
  · isplitr; · iexact HR
    isplitr; · iexact Hlev
    isplitl [Hw6]; · iexact Hw6
    iexact HO
  iintro ⟨HO, Hz6, Hp⟩
  iapply (step_load_half W c (s := 7) (lo := 2) (by decide) (facing (across c)) rfl) $$ Hp
  iintro Hp
  iapply (step_load_arg c rfl) $$ H5
  iintro H5
  iapply (step_store_arg c hg) $$ H5
  iintro H5
  iapply (step_ret c)
  iapply Hk
  isplitl [HO]; · iexact HO
  isplitl [Hz6]; · iexact Hz6
  isplitl [Hp]; · iexact Hp
  iexact H5

/-- The first transfers have left. -/
theorem part17_spec {Q : _ → sProp 𝕄} :
    iprop(records W K ∗ levAts L lv ∗ due c [] ∗ ready (F := F) c false 0 ∗ ready (F := F) c false 1 ∗ ready (F := F) c false 2)
      ⊢ iprop(((due c [] ∗ shut (F := F) c false 0 ∗ sendPay W c 0 ∗ shut (F := F) c false 1 ∗ sendPay W c 1 ∗ shut (F := F) c false 2 ∗ sendPay W c 2) -∗ Q ⟨⟩)
          -∗ WP c (k0_part17 a0 h0 a1 h1 a2 h2 a3 h3 a4 h4 a5 h5 scrM h6 cc0_scratch1 cc0_scratch2) Q) := by
  rw [k0_part17_eq_skeleton]; unfold k0_part17_skel
  simp only [Prog.lift, Prog.bind_op, Prog.bind_ret, Prog.pure_eq_ret]
  iintro ⟨#HR, #Hlev, HO, Hw0, Hw1, Hw2⟩ Hk
  iapply (step_wait_slot W K c 0 false [] (by decide) rfl
      (P := sendPay W c 0) rfl rfl) $$ [HO Hw0]
  · isplitr; · iexact HR
    isplitr; · iexact Hlev
    isplitl [Hw0]; · iexact Hw0
    iexact HO
  iintro ⟨HO, Hz0, Hp0⟩
  iapply (step_wait_slot W K c 1 false [] (by decide) rfl
      (P := sendPay W c 1) rfl rfl) $$ [HO Hw1]
  · isplitr; · iexact HR
    isplitr; · iexact Hlev
    isplitl [Hw1]; · iexact Hw1
    iexact HO
  iintro ⟨HO, Hz1, Hp1⟩
  iapply (step_wait_half W K c 2 false [] (by decide) rfl
      (P := sendPay W c 2) rfl rfl) $$ [HO Hw2]
  · isplitr; · iexact HR
    isplitr; · iexact Hlev
    isplitl [Hw2]; · iexact Hw2
    iexact HO
  iintro ⟨HO, Hz2, Hp2⟩
  iapply (step_ret c)
  iapply Hk
  isplitl [HO]; · iexact HO
  isplitl [Hz0]; · iexact Hz0
  isplitl [Hp0]; · iexact Hp0
  isplitl [Hz1]; · iexact Hz1
  isplitl [Hp1]; · iexact Hp1
  isplitl [Hz2]; · iexact Hz2
  iexact Hp2

/-- The next transfers have left. -/
theorem part18_spec {Q : _ → sProp 𝕄} :
    iprop(records W K ∗ levAts L lv ∗ due c [] ∗ ready (F := F) c false 3 ∗ ready (F := F) c false 4 ∗ ready (F := F) c false 5 ∗ ready (F := F) c false 6)
      ⊢ iprop(((due c [] ∗ shut (F := F) c false 3 ∗ sendPay W c 3 ∗ shut (F := F) c false 4 ∗ sendPay W c 4 ∗ shut (F := F) c false 5 ∗ sendPay W c 5 ∗ shut (F := F) c false 6 ∗ sendPay W c 6) -∗ Q ⟨⟩)
          -∗ WP c (k0_part18 a0 h0 a1 h1 a2 h2 a3 h3 a4 h4 a5 h5 scrM h6 cc0_scratch1 cc0_scratch2) Q) := by
  rw [k0_part18_eq_skeleton]; unfold k0_part18_skel
  simp only [Prog.lift, Prog.bind_op, Prog.bind_ret, Prog.pure_eq_ret]
  iintro ⟨#HR, #Hlev, HO, Hw3, Hw4, Hw5, Hw6⟩ Hk
  iapply (step_wait_slot W K c 3 false [] (by decide) rfl
      (P := sendPay W c 3) rfl rfl) $$ [HO Hw3]
  · isplitr; · iexact HR
    isplitr; · iexact Hlev
    isplitl [Hw3]; · iexact Hw3
    iexact HO
  iintro ⟨HO, Hz3, Hp3⟩
  iapply (step_wait_half W K c 4 false [] (by decide) rfl
      (P := sendPay W c 4) rfl rfl) $$ [HO Hw4]
  · isplitr; · iexact HR
    isplitr; · iexact Hlev
    isplitl [Hw4]; · iexact Hw4
    iexact HO
  iintro ⟨HO, Hz4, Hp4⟩
  iapply (step_wait_half W K c 5 false [] (by decide) rfl
      (P := sendPay W c 5) rfl rfl) $$ [HO Hw5]
  · isplitr; · iexact HR
    isplitr; · iexact Hlev
    isplitl [Hw5]; · iexact Hw5
    iexact HO
  iintro ⟨HO, Hz5, Hp5⟩
  iapply (step_wait_half W K c 6 false [] (by decide) rfl
      (P := sendPay W c 6) rfl rfl) $$ [HO Hw6]
  · isplitr; · iexact HR
    isplitr; · iexact Hlev
    isplitl [Hw6]; · iexact Hw6
    iexact HO
  iintro ⟨HO, Hz6, Hp6⟩
  iapply (step_ret c)
  iapply Hk
  isplitl [HO]; · iexact HO
  isplitl [Hz3]; · iexact Hz3
  isplitl [Hp3]; · iexact Hp3
  isplitl [Hz4]; · iexact Hz4
  isplitl [Hp4]; · iexact Hp4
  isplitl [Hz5]; · iexact Hz5
  isplitl [Hp5]; · iexact Hp5
  isplitl [Hz6]; · iexact Hz6
  iexact Hp6

end

end Cert.Moe

end
-- ==== Proof.Body.lean ====
/-
# The whole body

The parts put together: what the body computes, and its specification.
-/
module

public import proofs.«01_k».proof.Proof.Parts

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the body computes -/

set_option backward.proofsInPublic true in
/-- The result of device `c`, from the blocks of its operands and of everyone's experts. -/
def kOut (W : Dev nD → WBlock F) (c : Dev nD) (x0 : Vec F S1024x256 .bf16) (x1 : Vec F S256x32 .bf16) (x2 : Vec F S1024x1 .i32)
    (x4 : Vec F S256x512 .bf16) : FVec F S1024x512 .f32 :=
  let idx := k0_pay4 x2
  let px := k0_pay6 x0 x1 x2
  let z := k0_pay7 (F := F)
  let s0 := k0_pay8 idx (k0_pay5 x0 x4) px z (Scalar.muli (wMe c) 4#32) (slotVec (W c))
  let s1 := k0_pay10 idx px z s0 (Scalar.addi (Scalar.muli (wLeft c) 4#32) 0#32) (k0_pay9 (wLeft c) idx) (slotVec (W (left c)))
  let s2 := k0_pay14 (wAcross c) idx px z s1 (Scalar.addi (Scalar.muli (wRight c) 4#32) 0#32) (k0_pay11 (wRight c) idx px z)
    (k0_pay12 (wRight c) idx px z) (k0_pay13 (wRight c) idx px z) 3#32 (slotVec (W (right c))) (slotVec (W (across c)))
  let s3 := k0_pay15 idx px z (wOpp (wLeft c)) s2 (halfVec 2 (by decide) (W (left (across c))))
  let s4 := k0_pay18 s3 (k0_pay16 idx px z (wOpp (wRight c))) (k0_pay17 (halfVec 0 (by decide) (W (right (across c)))))
  let s5 := k0_pay20 idx px z s4 (k0_pay19 idx px z (wOpp (wRight c)))
    (Scalar.addi (Scalar.addi (Scalar.muli (wOpp (wRight c)) 4#32) 2#32) 1#32) (halfVec 2 (by decide) (W (right (across c))))
  let s6 := k0_pay24 idx px z s5 (Scalar.addi (Scalar.muli (wFacing c) 4#32) 0#32) (k0_pay21 (wFacing c) idx px z)
    (k0_pay22 (wFacing c) idx px z) (k0_pay23 (wFacing c) idx) (slotVec (W (facing c)))
  let s7 := k0_pay26 idx px z (wOpp (wLeft c)) s6 (k0_pay25 idx px z (wOpp (wFacing c)))
    (halfVec 0 (by decide) (W (facing (across c)))) (halfVec 0 (by decide) (W (left (across c))))
  k0_pay27 idx px z (wOpp (wFacing c)) s7 (halfVec 2 (by decide) (W (facing (across c))))

/-- The casts on the way into slot 0 change nothing. -/
theorem own_cast (X : WBlock F) : k0_pay2 (k0_pay1 X) = slotVec X := by
  funext y
  unfold k0_pay2 k0_pay1
  dsimp only
  rw [shapeCast_self]
  exact shapeCast_addUnit_apply _ _ _ _

section
variable (a0 : Memref sig .tc .vmem S1024x256 .bf16) (h0 : a0.IsWhole) (a1 : Memref sig .tc .vmem S256x32 .bf16) (h1 : a1.IsWhole)
  (a2 : Memref sig .tc .vmem S1024x1 .i32) (h2 : a2.IsWhole) (a3 : Memref sig .tc .vmem S4x256x512 .bf16) (h3 : a3.IsWhole)
  (a4 : Memref sig .tc .vmem S256x512 .bf16) (h4 : a4.IsWhole) (a5 : Memref sig .tc .vmem S1024x512 .f32) (h5 : a5.IsWhole)
  (h6 : scrM.IsWhole)
variable (W : Dev nD → WBlock F) (K : Dev nD × CellIx → ℕ) (c : Dev nD)

/-! ## The buffer, whole again -/

/-- The whole buffer is its eight slots. -/
theorem scr_slots (q : PosShare TreeShare) (f : S8x4x256x512.Idx → Elt F .bf16) :
    (scr c Finset.univ q f : sProp 𝕄) = iprop(scr c (piece 0 0 4) q f ∗ scr c (piece 1 0 4) q f ∗ scr c (piece 2 0 4) q f ∗ scr c (piece 3 0 4) q f
      ∗ scr c (piece 4 0 4) q f ∗ scr c (piece 5 0 4) q f ∗ scr c (piece 6 0 4) q f ∗ scr c (piece 7 0 4) q f) := by
  unfold scr
  rw [← slots_univ, pointsTo_biUnion _ _ (fun i _ j _ h => piece_disjoint (.inl fun e => h (Fin.ext e))),
    bigSep_univ_eq_bigSepL [0, 1, 2, 3, 4, 5, 6, 7] (by decide) (by decide)]
  rfl

/-- What the ten transfers gave back and what stayed behind make up the whole buffer. -/
theorem gather_all :
    iprop((sendPay W c 0 ∗ sendPay W c 1 ∗ sendPay W c 2 ∗ sendPay W c 3 ∗ sendPay W c 4 ∗ sendPay W c 5 ∗ sendPay W c 6 ∗ sendPay W c 7 ∗ sendPay W c 8 ∗ sendPay W c 9)
        ∗ scr c (piece 0 0 4) fullShare.right.right (full W c)
        ∗ scr c (piece 1 0 2) fullShare.right.left (full W c)
        ∗ scr c (piece 1 0 4) fullShare.right.right (full W c)
        ∗ scr c (piece 4 2 2) fullShare.left (full W c)
        ∗ scr c (piece 4 2 2) fullShare.right.left (full W c)
        ∗ scr c (piece 4 0 4) fullShare.right.right (full W c)
        ∗ scr c (piece 5 0 2) fullShare.left (full W c)
        ∗ scr c (piece 5 0 4) fullShare.right (full W c)
        ∗ scr c (piece 6 0 2) fullShare.right (full W c)
        ∗ scr c (piece 6 2 2) fullShare.right (full W c)
        ∗ scr c (piece 3 0 4) fullShare (full W c)
        ∗ scr c (piece 7 0 2) fullShare (full W c)
        ∗ scr c (piece 7 2 2) fullShare (full W c)
        ∗ scr c (piece 2 0 2) fullShare (full W c)
        ∗ scr c (piece 2 2 2) fullShare (full W c))
      ⊢ scr c Finset.univ fullShare (full W c) := by
  iintro ⟨⟨P0, P1, P2, P3, P4, P5, P6, P7, P8, P9⟩, K0, K1a, K1, K4a, K4b, K4, K5a, K5, K6a, K6b, K3, K7a, K7b, K2a, K2b⟩
  ihave P0 := (Entails.of_eq (show sendPay W c 0 = scr c (piece 0 0 4) fullShare.left.left (full W c) from rfl)) $$ P0
  ihave P1 := (Entails.of_eq (show sendPay W c 1 = scr c (piece 1 0 4) fullShare.left (full W c) from rfl)) $$ P1
  ihave P2 := (Entails.of_eq (show sendPay W c 2 = scr c (piece 4 0 2) fullShare.left (full W c) from rfl)) $$ P2
  ihave P3 := (Entails.of_eq (show sendPay W c 3 = scr c (piece 0 0 4) fullShare.left.right (full W c) from rfl)) $$ P3
  ihave P4 := (Entails.of_eq (show sendPay W c 4 = scr c (piece 4 0 2) fullShare.right.left (full W c) from rfl)) $$ P4
  ihave P5 := (Entails.of_eq (show sendPay W c 5 = scr c (piece 6 0 2) fullShare.left (full W c) from rfl)) $$ P5
  ihave P6 := (Entails.of_eq (show sendPay W c 6 = scr c (piece 6 2 2) fullShare.left (full W c) from rfl)) $$ P6
  ihave P7 := (Entails.of_eq (show sendPay W c 7 = scr c (piece 0 0 4) fullShare.right.left (full W c) from rfl)) $$ P7
  ihave P8 := (Entails.of_eq (show sendPay W c 8 = scr c (piece 1 2 2) fullShare.right.left (full W c) from rfl)) $$ P8
  ihave P9 := (Entails.of_eq (show sendPay W c 9 = scr c (piece 5 2 2) fullShare.left (full W c) from rfl)) $$ P9
  ihave L := (scr_whole c _ _ _) $$ [P0 P3]
  · isplitl [P0]; · iexact P0
    iexact P3
  ihave R := (scr_whole c _ _ _) $$ [P7 K0]
  · isplitl [P7]; · iexact P7
    iexact K0
  ihave J0 := (scr_whole c _ _ _) $$ [L R]
  · isplitl [L]; · iexact L
    iexact R
  ihave M := (scr_join c _ _ _) $$ [K1a P8]
  · isplitl [K1a]; · iexact K1a
    iexact P8
  ihave R := (scr_whole c _ _ _) $$ [M K1]
  · isplitl [M]; · iexact M
    iexact K1
  ihave J1 := (scr_whole c _ _ _) $$ [P1 R]
  · isplitl [P1]; · iexact P1
    iexact R
  ihave J2 := (scr_join c _ _ _) $$ [K2a K2b]
  · isplitl [K2a]; · iexact K2a
    iexact K2b
  ihave L := (scr_join c _ _ _) $$ [P2 K4a]
  · isplitl [P2]; · iexact P2
    iexact K4a
  ihave M := (scr_join c _ _ _) $$ [P4 K4b]
  · isplitl [P4]; · iexact P4
    iexact K4b
  ihave R := (scr_whole c _ _ _) $$ [M K4]
  · isplitl [M]; · iexact M
    iexact K4
  ihave J4 := (scr_whole c _ _ _) $$ [L R]
  · isplitl [L]; · iexact L
    iexact R
  ihave L := (scr_join c _ _ _) $$ [K5a P9]
  · isplitl [K5a]; · iexact K5a
    iexact P9
  ihave J5 := (scr_whole c _ _ _) $$ [L K5]
  · isplitl [L]; · iexact L
    iexact K5
  ihave L := (scr_whole c _ _ _) $$ [P5 K6a]
  · isplitl [P5]; · iexact P5
    iexact K6a
  ihave R := (scr_whole c _ _ _) $$ [P6 K6b]
  · isplitl [P6]; · iexact P6
    iexact K6b
  ihave J6 := (scr_join c _ _ _) $$ [L R]
  · isplitl [L]; · iexact L
    iexact R
  ihave J7 := (scr_join c _ _ _) $$ [K7a K7b]
  · isplitl [K7a]; · iexact K7a
    iexact K7b
  rw [scr_slots]
  isplitl [J0]; · iexact J0
  isplitl [J1]; · iexact J1
  isplitl [J2]; · iexact J2
  isplitl [K3]; · iexact K3
  isplitl [J4]; · iexact J4
  isplitl [J5]; · iexact J5
  isplitl [J6]; · iexact J6
  iexact J7

/-! ## The specification -/

/-- The piece of its own buffer that device `c` hands to the device whose transfer `k` comes here. -/
theorem land_own (k : Fin 10) {j : Fin 3} (hj : dirOf k = j) (f : S8x4x256x512.Idx → Elt F .bf16) :
    scr c (dstPiece k) fullShare f ⊢ landPiece (F := F) ((go j).symm c) k := by
  subst hj
  unfold landPiece
  iintro H; iexists f
  rw [show tgt k ((go (dirOf k)).symm c) = c from (go (dirOf k)).apply_symm_apply c]
  iexact H

/-- What device `c` brings of the protocol, besides what everyone knows. -/
def bring : sProp 𝕄 :=
  iprop((dutyTok ER (barCell ((go 0).symm c)) 0 0 ∗ dutyTok ER (barCell ((go 1).symm c)) 0 1 ∗ dutyTok ER (barCell ((go 2).symm c)) 0 2)
    ∗ waitRight (barCell c) 3
    ∗ (sendToks (F := F) c 0 ∗ sendToks (F := F) c 1 ∗ sendToks (F := F) c 2 ∗ sendToks (F := F) c 3 ∗ sendToks (F := F) c 4 ∗ sendToks (F := F) c 5 ∗ sendToks (F := F) c 6 ∗ sendToks (F := F) c 7 ∗ sendToks (F := F) c 8 ∗ sendToks (F := F) c 9)
    ∗ (ready (F := F) c true 0 ∗ ready (F := F) c true 1 ∗ ready (F := F) c true 2 ∗ ready (F := F) c true 3 ∗ ready (F := F) c true 4 ∗ ready (F := F) c true 5 ∗ ready (F := F) c true 6 ∗ ready (F := F) c true 7 ∗ ready (F := F) c true 8 ∗ ready (F := F) c true 9))

/-- All its cells, back at zero. -/
def allShut : sProp 𝕄 :=
  iprop(semVal (barCell c) 0 ∗ shut (F := F) c false 0 ∗ shut (F := F) c false 1 ∗ shut (F := F) c false 2 ∗ shut (F := F) c false 3 ∗ shut (F := F) c false 4 ∗ shut (F := F) c false 5 ∗ shut (F := F) c false 6 ∗ shut (F := F) c false 7 ∗ shut (F := F) c false 8 ∗ shut (F := F) c false 9 ∗ shut (F := F) c true 0 ∗ shut (F := F) c true 1 ∗ shut (F := F) c true 2 ∗ shut (F := F) c true 3 ∗ shut (F := F) c true 4 ∗ shut (F := F) c true 5 ∗ shut (F := F) c true 6 ∗ shut (F := F) c true 7 ∗ shut (F := F) c true 8 ∗ shut (F := F) c true 9)

set_option maxHeartbeats 4000000 in
/-- The body of the kernel: it leaves the operands as they were, the result in its staging buffer, the communication
    buffer whole, nothing owed and every cell at zero. -/
theorem body_spec {Q : PUnit → sProp 𝕄}
    {f0 : Buf (Elt F) (a0.view.loc (c : Thread nD τ))} {x0 : Vec F S1024x256 .bf16}
    (hx0 : a0.view.readAt (Elt F) (Rect.unit (s := S1024x256) ![0, 0] S1024x256.size inb_S1024x256_S1024x256_0_0).toLoadRect f0 = x0)
    {f1 : Buf (Elt F) (a1.view.loc (c : Thread nD τ))} {x1 : Vec F S256x32 .bf16}
    (hx1 : a1.view.readAt (Elt F) (Rect.unit (s := S256x32) ![0, 0] S256x32.size inb_S256x32_S256x32_0_0).toLoadRect f1 = x1)
    {f2 : Buf (Elt F) (a2.view.loc (c : Thread nD τ))} {x2 : Vec F S1024x1 .i32}
    (hx2 : a2.view.readAt (Elt F) (Rect.unit (s := S1024x1) ![0, 0] S1024x1.size inb_S1024x1_S1024x1_0_0).toLoadRect f2 = x2)
    {f4 : Buf (Elt F) (a4.view.loc (c : Thread nD τ))} {x4 : Vec F S256x512 .bf16}
    (hx4 : a4.view.readAt (Elt F) (Rect.unit (s := S256x512) ![0, 0] S256x512.size inb_S256x512_S256x512_0_0).toLoadRect f4 = x4)
    {f3 : Buf (Elt F) (a3.view.loc (c : Thread nD τ))}
    (hx3 : a3.view.readAt (Elt F) (Rect.unit (s := S4x256x512) ![0, 0, 0] S4x256x512.size inb_S4x256x512_S4x256x512_0_0_0).toLoadRect f3 = W c)
    {f5 g5 : Buf (Elt F) (a5.view.loc (c : Thread nD τ))}
    (hg : (a5.access (Rect.unit (s := S1024x512) ![0, 0] S1024x512.size inb_S1024x512_S1024x512_0_0)).write (Elt F) f5
      (kOut W c x0 x1 x2 x4) Finset.univ = g5)
    {fs : S8x4x256x512.Idx → Elt F .bf16} :
    iprop(records W K ∗ levAts L lv ∗ (∃ Ws, owes (c : Thread nD τ) (owed₀ c) Ws) ∗ bring (F := F) c
        ∗ ((a0.view.loc (c : Thread nD τ) ↦[a0.view.set]{fullShare} f0) ∗ (a1.view.loc (c : Thread nD τ) ↦[a1.view.set]{fullShare} f1) ∗ (a2.view.loc (c : Thread nD τ) ↦[a2.view.set]{fullShare} f2) ∗ (a3.view.loc (c : Thread nD τ) ↦[a3.view.set]{fullShare} f3) ∗ (a4.view.loc (c : Thread nD τ) ↦[a4.view.set]{fullShare} f4)) ∗ (a5.view.loc (c : Thread nD τ) ↦[a5.view.set]{fullShare} f5) ∗ scr c Finset.univ fullShare fs)
      ⊢ iprop(((due c [] ∗ allShut (F := F) c ∗ ((a0.view.loc (c : Thread nD τ) ↦[a0.view.set]{fullShare} f0) ∗ (a1.view.loc (c : Thread nD τ) ↦[a1.view.set]{fullShare} f1) ∗ (a2.view.loc (c : Thread nD τ) ↦[a2.view.set]{fullShare} f2) ∗ (a3.view.loc (c : Thread nD τ) ↦[a3.view.set]{fullShare} f3) ∗ (a4.view.loc (c : Thread nD τ) ↦[a4.view.set]{fullShare} f4)) ∗ (a5.view.loc (c : Thread nD τ) ↦[a5.view.set]{fullShare} g5) ∗ scr c Finset.univ fullShare (full W c)) -∗ Q ⟨⟩)
          -∗ WP c (cc0_body a0 h0 a1 h1 a2 h2 a3 h3 a4 h4 a5 h5 scrM h6 cc0_scratch1 cc0_scratch2) Q) := by
  rw [cc0_body_eq_skeleton]; unfold cc0_body_skel
  rw [k0_part19_eq_skeleton]; unfold k0_part19_skel
  simp only [WP_bind, Prog.lift, Prog.pure_eq_ret]
  unfold bring
  iintro ⟨#HR, #Hlev, HO, ⟨⟨B0, B1, B2⟩, HB, ⟨T0, T1, T2, T3, T4, T5, T6, T7, T8, T9⟩, R0, R1, R2, R3, R4, R5, R6, R7, R8, R9⟩, ⟨A0, A1, A2, A3, A4⟩, A5, Hs⟩ Hk
  ihave Hs := (Entails.of_eq (scr_slots c _ _)) $$ Hs
  icases Hs with ⟨S0, S1, S2, S3, S4, S5, S6, S7⟩
  icases (scr_split c _ _ _) $$ S2 with ⟨S2a, S2b⟩
  icases (scr_split c _ _ _) $$ S6 with ⟨S6a, S6b⟩
  icases (scr_split c _ _ _) $$ S7 with ⟨S7a, S7b⟩
  ihave G0 := (Entails.of_eq (barPay_right ((go 0).symm c)).symm) $$ [S1 S3 S2a]
  · isplitl [S1]; · iapply (land_own c 0 rfl fs); iexact S1
    isplitl [S3]; · iapply (land_own c 1 rfl fs); iexact S3
    iapply (land_own c 2 rfl fs); iexact S2a
  ihave G1 := (Entails.of_eq (barPay_left ((go 1).symm c)).symm) $$ [S5 S6a S7a S7b]
  · isplitl [S5]; · iapply (land_own c 3 rfl fs); iexact S5
    isplitl [S6a]; · iapply (land_own c 4 rfl fs); iexact S6a
    isplitl [S7a]; · iapply (land_own c 5 rfl fs); iexact S7a
    iapply (land_own c 6 rfl fs); iexact S7b
  ihave G2 := (Entails.of_eq (barPay_across ((go 2).symm c)).symm) $$ [S4 S2b S6b]
  · isplitl [S4]; · iapply (land_own c 7 rfl fs); iexact S4
    isplitl [S2b]; · iapply (land_own c 8 rfl fs); iexact S2b
    iapply (land_own c 9 rfl fs); iexact S6b
  iapply (part1_spec a0 h0 a1 h1 a2 h2 a3 h3 a4 h4 a5 h5 h6 W K c hx3) $$ [HO B0 B1 B2 G0 G1 G2 HB A3 S0]
  · isplitr; · iexact HR
    isplitr; · iexact Hlev
    isplitl [HO]; · iexact HO
    isplitl [B0 B1 B2]
    · isplitl [B0]; · iexact B0
      isplitl [B1]; · iexact B1
      iexact B2
    isplitl [G0 G1 G2]
    · isplitl [G0]; · iexact G0
      isplitl [G1]; · iexact G1
      iexact G2
    isplitl [HB]; · iexact HB
    isplitl [A3]; · iexact A3
    iexact S0
  iintro %v25 ⟨HO, ZB, HBP, A3, S0⟩
  dsimp only
  icases HBP with ⟨G0, G1, G2⟩
  ihave G0 := (Entails.of_eq (barPay_right c)) $$ G0
  ihave G1 := (Entails.of_eq (barPay_left c)) $$ G1
  ihave G2 := (Entails.of_eq (barPay_across c)) $$ G2
  icases G0 with ⟨L0, L1, L2⟩
  icases G1 with ⟨L3, L4, L5, L6⟩
  icases G2 with ⟨L7, L8, L9⟩
  iapply (part2_spec a0 h0 a1 h1 a2 h2 a3 h3 a4 h4 a5 h5 h6 W K c (own_cast (W c))) $$ [HO S0 L0 T0 L3 T3]
  · isplitr; · iexact HR
    isplitl [HO]; · iexact HO
    isplitl [S0]; · iexact S0
    isplitl [L0 T0]
    · isplitl [L0]; · iexact L0
      iexact T0
    isplitl [L3]; · iexact L3
    iexact T3
  iintro ⟨HO, S0, D0, D3⟩
  iapply (part3_spec a0 h0 a1 h1 a2 h2 a3 h3 a4 h4 a5 h5 h6 W K c hx0 hx1 hx2 hx4) $$ [HO S0 L7 T7 A0 A1 A2 A4]
  · isplitr; · iexact HR
    isplitl [HO]; · iexact HO
    isplitl [S0]; · iexact S0
    isplitl [L7 T7]
    · isplitl [L7]; · iexact L7
      iexact T7
    isplitl [A0]; · iexact A0
    isplitl [A1]; · iexact A1
    isplitl [A2]; · iexact A2
    iexact A4
  iintro ⟨HO, S0, D7, A0, A1, A2, A4⟩
  dsimp only
  iapply (part4_spec a0 h0 a1 h1 a2 h2 a3 h3 a4 h4 a5 h5 h6 W c) $$ [S0]
  · iexact S0
  iintro K0
  dsimp only
  iapply (part5_spec a0 h0 a1 h1 a2 h2 a3 h3 a4 h4 a5 h5 h6 W K c ) $$ [HO R0 L1 T1 L8 T8]
  · isplitr; · iexact HR
    isplitr; · iexact Hlev
    isplitl [HO]; · iexact HO
    isplitl [R0]; · iexact R0
    isplitl [L1 T1]
    · isplitl [L1]; · iexact L1
      iexact T1
    isplitl [L8]; · iexact L8
    iexact T8
  iintro ⟨HO, Z0, K1a, K1, D1, D8⟩
  iapply (part6_spec a0 h0 a1 h1 a2 h2 a3 h3 a4 h4 a5 h5 h6 W K c ) $$ [HO R7 L2 T2]
  · isplitr; · iexact HR
    isplitr; · iexact Hlev
    isplitl [HO]; · iexact HO
    isplitl [R7]; · iexact R7
    isplitl [L2]; · iexact L2
    iexact T2
  iintro ⟨HO, Z7, K4a, K4, D2⟩
  iapply (part7_spec a0 h0 a1 h1 a2 h2 a3 h3 a4 h4 a5 h5 h6 W K c ) $$ [HO K4 L4 T4 R3 L9 T9]
  · isplitr; · iexact HR
    isplitr; · iexact Hlev
    isplitl [HO]; · iexact HO
    isplitl [K4]; · iexact K4
    isplitl [L4 T4]
    · isplitl [L4]; · iexact L4
      iexact T4
    isplitl [R3]; · iexact R3
    isplitl [L9]; · iexact L9
    iexact T9
  iintro ⟨HO, K4b, K4, D4, Z3, K5a, K5, D9⟩
  dsimp only
  iapply (part8_spec a0 h0 a1 h1 a2 h2 a3 h3 a4 h4 a5 h5 h6 W c) $$ [K1]
  · iexact K1
  iintro K1
  dsimp only
  iapply (part9_spec a0 h0 a1 h1 a2 h2 a3 h3 a4 h4 a5 h5 h6 W c) $$ [K5 K4]
  · isplitl [K5]; · iexact K5
    iexact K4
  iintro ⟨K5, K4⟩
  iapply (part10_spec a0 h0 a1 h1 a2 h2 a3 h3 a4 h4 a5 h5 h6 W K c ) $$ [HO R8]
  · isplitr; · iexact HR
    isplitr; · iexact Hlev
    isplitl [HO]; · iexact HO
    iexact R8
  iintro ⟨HO, Z8, K2b⟩
  iapply (part11_spec a0 h0 a1 h1 a2 h2 a3 h3 a4 h4 a5 h5 h6 W K c ) $$ [HO R4 L5 T5]
  · isplitr; · iexact HR
    isplitr; · iexact Hlev
    isplitl [HO]; · iexact HO
    isplitl [R4]; · iexact R4
    isplitl [L5]; · iexact L5
    iexact T5
  iintro ⟨HO, Z4, K6a, D5⟩
  dsimp only
  iapply (part12_spec a0 h0 a1 h1 a2 h2 a3 h3 a4 h4 a5 h5 h6 W K c ) $$ [HO R9 L6 T6]
  · isplitr; · iexact HR
    isplitr; · iexact Hlev
    isplitl [HO]; · iexact HO
    isplitl [R9]; · iexact R9
    isplitl [L6]; · iexact L6
    iexact T6
  iintro ⟨HO, Z9, K6b, D6⟩
  dsimp only
  iapply (part13_spec a0 h0 a1 h1 a2 h2 a3 h3 a4 h4 a5 h5 h6 W K c ) $$ [HO K6b R1]
  · isplitr; · iexact HR
    isplitr; · iexact Hlev
    isplitl [HO]; · iexact HO
    isplitl [K6b]; · iexact K6b
    iexact R1
  iintro ⟨HO, K6b, Z1, K3⟩
  dsimp only
  iapply (part14_spec a0 h0 a1 h1 a2 h2 a3 h3 a4 h4 a5 h5 h6 W K c ) $$ [HO K3 R5]
  · isplitr; · iexact HR
    isplitr; · iexact Hlev
    isplitl [HO]; · iexact HO
    isplitl [K3]; · iexact K3
    iexact R5
  iintro ⟨HO, K3, Z5, K7a⟩
  dsimp only
  iapply (part15_spec a0 h0 a1 h1 a2 h2 a3 h3 a4 h4 a5 h5 h6 W K c ) $$ [HO K7a R2]
  · isplitr; · iexact HR
    isplitr; · iexact Hlev
    isplitl [HO]; · iexact HO
    isplitl [K7a]; · iexact K7a
    iexact R2
  iintro ⟨HO, K7a, Z2, K2a⟩
  iapply (part16_spec a0 h0 a1 h1 a2 h2 a3 h3 a4 h4 a5 h5 h6 W K c hg) $$ [HO R6 A5]
  · isplitr; · iexact HR
    isplitr; · iexact Hlev
    isplitl [HO]; · iexact HO
    isplitl [R6]; · iexact R6
    iexact A5
  iintro ⟨HO, Z6, K7b, A5⟩
  iapply (part17_spec a0 h0 a1 h1 a2 h2 a3 h3 a4 h4 a5 h5 h6 W K c ) $$ [HO D0 D1 D2]
  · isplitr; · iexact HR
    isplitr; · iexact Hlev
    isplitl [HO]; · iexact HO
    isplitl [D0]; · iexact D0
    isplitl [D1]; · iexact D1
    iexact D2
  iintro ⟨HO, Y0, P0, Y1, P1, Y2, P2⟩
  iapply (part18_spec a0 h0 a1 h1 a2 h2 a3 h3 a4 h4 a5 h5 h6 W K c ) $$ [HO D3 D4 D5 D6]
  · isplitr; · iexact HR
    isplitr; · iexact Hlev
    isplitl [HO]; · iexact HO
    isplitl [D3]; · iexact D3
    isplitl [D4]; · iexact D4
    isplitl [D5]; · iexact D5
    iexact D6
  iintro ⟨HO, Y3, P3, Y4, P4, Y5, P5, Y6, P6⟩
  iapply (step_wait_slot W K c 7 false [] (by decide) rfl
      (P := sendPay W c 7) rfl rfl) $$ [HO D7]
  · isplitr; · iexact HR
    isplitr; · iexact Hlev
    isplitl [D7]; · iexact D7
    iexact HO
  iintro ⟨HO, Y7, P7⟩
  iapply (step_ret c)
  iapply (step_wait_half W K c 8 false [] (by decide) rfl
      (P := sendPay W c 8) rfl rfl) $$ [HO D8]
  · isplitr; · iexact HR
    isplitr; · iexact Hlev
    isplitl [D8]; · iexact D8
    iexact HO
  iintro ⟨HO, Y8, P8⟩
  iapply (step_ret c)
  iapply (step_ret c)
  iapply (step_wait_half W K c 9 false [] (by decide) rfl
      (P := sendPay W c 9) rfl rfl) $$ [HO D9]
  · isplitr; · iexact HR
    isplitr; · iexact Hlev
    isplitl [D9]; · iexact D9
    iexact HO
  iintro ⟨HO, Y9, P9⟩
  ihave S := (gather_all W c) $$ [P0 P1 P2 P3 P4 P5 P6 P7 P8 P9 K0 K1a K1 K4a K4b K4 K5a K5 K6a K6b K3 K7a K7b K2a K2b]
  · isplitl [P0 P1 P2 P3 P4 P5 P6 P7 P8 P9]
    · isplitl [P0]; · iexact P0
      isplitl [P1]; · iexact P1
      isplitl [P2]; · iexact P2
      isplitl [P3]; · iexact P3
      isplitl [P4]; · iexact P4
      isplitl [P5]; · iexact P5
      isplitl [P6]; · iexact P6
      isplitl [P7]; · iexact P7
      isplitl [P8]; · iexact P8
      iexact P9
    isplitl [K0]; · iexact K0
    isplitl [K1a]; · iexact K1a
    isplitl [K1]; · iexact K1
    isplitl [K4a]; · iexact K4a
    isplitl [K4b]; · iexact K4b
    isplitl [K4]; · iexact K4
    isplitl [K5a]; · iexact K5a
    isplitl [K5]; · iexact K5
    isplitl [K6a]; · iexact K6a
    isplitl [K6b]; · iexact K6b
    isplitl [K3]; · iexact K3
    isplitl [K7a]; · iexact K7a
    isplitl [K7b]; · iexact K7b
    isplitl [K2a]; · iexact K2a
    iexact K2b
  iapply (step_ret c)
  iapply (step_ret c)
  iapply Hk
  isplitl [HO]; · iexact HO
  isplitl [ZB Y0 Y1 Y2 Y3 Y4 Y5 Y6 Y7 Y8 Y9 Z0 Z1 Z2 Z3 Z4 Z5 Z6 Z7 Z8 Z9]
  · unfold allShut
    isplitl [ZB]; · iexact ZB
    isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    isplitl [Y7]; · iexact Y7
    isplitl [Y8]; · iexact Y8
    isplitl [Y9]; · iexact Y9
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    iexact Z9
  isplitl [A0 A1 A2 A3 A4]
  · isplitl [A0]; · iexact A0
    isplitl [A1]; · iexact A1
    isplitl [A2]; · iexact A2
    isplitl [A3]; · iexact A3
    iexact A4
  isplitl [A5]; · iexact A5
  iexact S

end

end Cert.Moe

end
-- ==== Proof.Launch.lean ====
/-
# The launch

How the launch's ghost state is dealt to the devices, and the run of the whole program.
-/
module

public import proofs.«01_k».proof.Proof.Body
public import proofs.«01_k».proof.Proof.Gen.KernelIdeal.Frame
public import Idealize.ShloMosaic.Lib.Pipeline.CollectiveSegs

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter at zero. -/
def mem₀ : MemSt nD τ sig (Elt F) := ⟨m, fun _ => 0, ρ⟩

theorem cfg_one (t : Fin cfg0.N) : t = (t0_0 : Fin cfg0.N) := fin_N0 t

/-! ## The operands as the body finds them -/

def opX (c : Dev nD) : Vec F S1024x256 .bf16 := iblk m c 0 t0_0
def opGate (c : Dev nD) : Vec F S256x32 .bf16 := iblk m c 1 t0_0
def opIdx (c : Dev nD) : Vec F S1024x1 .i32 := iblk m c 2 t0_0
def opW (c : Dev nD) : WBlock F := iblk m c 3 t0_0
def opShared (c : Dev nD) : Vec F S256x512 .bf16 := iblk m c 4 t0_0

/-- The kernel's result on device `c`. -/
def result (c : Dev nD) : FVec F S1024x512 .f32 := kOut (opW m) c (opX m c) (opGate m c) (opIdx m c) (opShared m c)

/-! ## The pipeline's data -/

/-- What the body starts from, besides the communication buffer, -/
def start (c : Dev nD) : sProp 𝕄 := iprop((∃ K, records (opW m) K) ∗ bring (F := F) c ∗ levAts L lv)
def before (c : Dev nD) : sProp 𝕄 := iprop(start m c ∗ ∃ f, scr c Finset.univ fullShare f)
/-- and what it ends with. -/
def after (c : Dev nD) : sProp 𝕄 := iprop(scr c Finset.univ fullShare (full (opW m) c) ∗ allShut (F := F) c)

def dats (_ : Fin 1) (c : Dev nD) : Dat τ (Elt F) Unit ℕ UU ℕ cfg0 c where
  A w := (mem₀ m ρ).mem ((cfg0.win w).arr.view.loc (c : Thread nD τ))
  after w _ := match w with
    | ⟨0, _⟩ => opX m c
    | ⟨1, _⟩ => opGate m c
    | ⟨2, _⟩ => opIdx m c
    | ⟨3, _⟩ => opW m c
    | ⟨4, _⟩ => opShared m c
    | ⟨5, _⟩ => result m c
  Φ t := match t with
    | ⟨0, _⟩ => before m c
    | ⟨_ + 1, _⟩ => after m c
  q _ := fullShare
  owed t := match t with
    | ⟨0, _⟩ => owed₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A whole buffer, as the body's specification writes it. -/
theorem whole_pts (c : Dev nD) (b : Ref sig .tc) (X : Buf (Elt F) (((c : Dev nD) : Thread nD τ).loc b)) :
    (((c : Thread nD τ).loc b) ↦{fullShare} X : sProp 𝕄)
      = ((Memref.whole b).view.loc (c : Thread nD τ) ↦[(Memref.whole b).view.set]{fullShare} X) := by
  rw [show (Memref.whole b).view.set = Finset.univ from View.set_whole b]

theorem zero2 : (![0, 0] : Fin 2 → Nat) = fun _ => 0 := funext fun a => by fin_cases a <;> rfl
theorem zero3 : (![0, 0, 0] : Fin 3 → Nat) = fun _ => 0 := funext fun a => by fin_cases a <;> rfl

/-! ## The body's obligation -/

def bodyPre (c : Dev nD) : sProp 𝕄 :=
  iprop(before m c ∗ (dats m ρ 0 c).owesAt () (t0_0 : Fin cfg0.N).castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(after m c ∗ (dats m ρ 0 c).owesAt () (t0_0 : Fin cfg0.N).succ
    ∗ stg c cc0_stg0_0 (opX m c) ∗ stg c cc0_stg1_0 (opGate m c) ∗ stg c cc0_stg2_0 (opIdx m c) ∗ stg c cc0_stg3_0 (opW m c)
    ∗ stg c cc0_stg4_0 (opShared m c) ∗ stg c cc0_stg5_0 (result m c))

theorem sound_body (c : Dev nD) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_stg5_0) (Memref.isWhole_whole _)
        (Memref.whole cc0_scratch0) (Memref.isWhole_whole _) cc0_scratch1 cc0_scratch2) (fun _ => bodyPost m ρ c) := by
  unfold bodyPre before start
  iintro ⟨⟨⟨⟨%K, #HR⟩, HB, #Hlev⟩, ⟨%fs, Hs⟩⟩, Ho, ⟨%d0, %g0, %hg0, A0⟩, ⟨%d1, %g1, %hg1, A1⟩, ⟨%d2, %g2, %hg2, A2⟩, ⟨%d3, %g3, %hg3, A3⟩, ⟨%d4, %g4, %hg4, A4⟩, ⟨%d5, %g5, %hg5, A5⟩⟩
  have e0 : g0 = opX m c := by rw [hg0]; unfold Dat.before; rw [if_pos (fetch0_0 t0_0)]; rfl
  have e1 : g1 = opGate m c := by rw [hg1]; unfold Dat.before; rw [if_pos (fetch0_1 t0_0)]; rfl
  have e2 : g2 = opIdx m c := by rw [hg2]; unfold Dat.before; rw [if_pos (fetch0_2 t0_0)]; rfl
  have e3 : g3 = opW m c := by rw [hg3]; unfold Dat.before; rw [if_pos (fetch0_3 t0_0)]; rfl
  have e4 : g4 = opShared m c := by rw [hg4]; unfold Dat.before; rw [if_pos (fetch0_4 t0_0)]; rfl
  subst e0 e1 e2 e3 e4
  unfold Dat.owesAt Pipeline.owesWithin
  icases Ho with ⟨%Ws, %hW, HO⟩
  rw [show (dats m ρ 0 c).owed (t0_0 : Fin cfg0.N).castSucc = owed₀ c from rfl]
  ihave A0 := (Entails.of_eq (whole_pts c _ _)) $$ A0
  ihave A1 := (Entails.of_eq (whole_pts c _ _)) $$ A1
  ihave A2 := (Entails.of_eq (whole_pts c _ _)) $$ A2
  ihave A3 := (Entails.of_eq (whole_pts c _ _)) $$ A3
  ihave A4 := (Entails.of_eq (whole_pts c _ _)) $$ A4
  ihave A5 := (Entails.of_eq (whole_pts c _ _)) $$ A5
  iapply (body_spec (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_stg5_0) (Memref.isWhole_whole _)
        (Memref.isWhole_whole _) (opW m) K c
        (Memref.readAt_unit_zero (Elt F) cc0_stg0_0 zero2 _ (opX m c)) (Memref.readAt_unit_zero (Elt F) cc0_stg1_0 zero2 _ (opGate m c))
        (Memref.readAt_unit_zero (Elt F) cc0_stg2_0 zero2 _ (opIdx m c)) (Memref.readAt_unit_zero (Elt F) cc0_stg4_0 zero2 _ (opShared m c))
        (Memref.readAt_unit_zero (Elt F) cc0_stg3_0 zero3 _ (opW m c))
        (Memref.write_access_unit_zero_univ (Elt F) cc0_stg5_0 zero2 _ g5 (result m c))) $$ [HB HO A0 A1 A2 A3 A4 A5 Hs]
  · isplitr; · iexact HR
    isplitr; · iexact Hlev
    isplitl [HO]; · iexists Ws; iexact HO
    isplitl [HB]; · iexact HB
    isplitl [A0 A1 A2 A3 A4]
    · isplitl [A0]; · iexact A0
      isplitl [A1]; · iexact A1
      isplitl [A2]; · iexact A2
      isplitl [A3]; · iexact A3
      iexact A4
    isplitl [A5]; · iexact A5
    iexact Hs
  iintro ⟨Hd, Hz, ⟨A0, A1, A2, A3, A4⟩, A5, Hs⟩
  unfold bodyPost after Dat.owesAt Pipeline.owesWithin due
  icases Hd with ⟨%Ws', HO⟩
  isplitl [Hs Hz]
  · isplitl [Hs] <;> iassumption
  isplitl [HO]
  · iexists Ws'
    isplitr; · ipureintro; exact fun _ _ => Or.inl trivial
    iexact HO
  isplitl [A0]
  · iexists _; isplitr; · (ipureintro; rfl)
    rw [whole_pts]; iexact A0
  isplitl [A1]
  · iexists _; isplitr; · (ipureintro; rfl)
    rw [whole_pts]; iexact A1
  isplitl [A2]
  · iexists _; isplitr; · (ipureintro; rfl)
    rw [whole_pts]; iexact A2
  isplitl [A3]
  · iexists _; isplitr; · (ipureintro; rfl)
    rw [whole_pts]; iexact A3
  isplitl [A4]
  · iexists _; isplitr; · (ipureintro; rfl)
    rw [whole_pts]; iexact A4
  iexists _; isplitr; · (ipureintro; rfl)
  rw [whole_pts]; iexact A5

theorem body_obligation (c : Dev nD) : BodyObligation (dats (F := F) m ρ 0 c) (defs₀ (F := F)) 𝒱₀ () Set.univ := fun t => by
  rw [cfg_one t]
  rw [bigSep_W0, bigSep_W0]
  simp only [owns_whole]
  exact sound_body m ρ c

/-! ## Dealing the cells and the tokens -/

/-- The semaphores of the kernel's own: ten send cells and ten receive cells. -/
abbrev osem : Bool × Fin 10 → SemLoc sig := fun bk => csem (some bk)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × CellIx → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The duties of a device's cells: the three of its barrier cell, and one of each transfer's cell. -/
abbrev TokIx : Type := Fin 3 ⊕ (Bool × Fin 10)
def tokOf (ct : Dev nD × TokIx) : GSem nD τ sig × ℕ × Fin 3 := match ct.2 with
  | .inl j => (kcell (ct.1, none), 0, j)
  | .inr bk => (kcell (ct.1, some bk), 0, 0)
theorem tokOf_injective : Function.Injective tokOf := by
  rintro ⟨c, t⟩ ⟨c', t'⟩ h
  rcases t with j | bk <;> rcases t' with j' | bk'
  · have h1 := kcell_injective (congrArg Prod.fst h)
    have h2 : j = j' := congrArg (fun x : GSem nD τ sig × ℕ × Fin 3 => x.2.2) h
    have h3 : c = c' := (Prod.mk.inj h1).1
    rw [h3, h2]
  · have h1 := kcell_injective (congrArg Prod.fst h); cases (Prod.mk.inj h1).2
  · have h1 := kcell_injective (congrArg Prod.fst h); cases (Prod.mk.inj h1).2
  · have h1 := Prod.mk.inj (kcell_injective (congrArg Prod.fst h))
    have h3 : c = c' := h1.1
    rw [h3, Option.some.inj h1.2]
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

theorem bigSep_two (Φ : Bool → sProp 𝕄) : bigSep Finset.univ Φ = iprop(Φ false ∗ Φ true) :=
  bigSep_univ_eq_bigSepL [false, true] (by decide) (by decide) Φ
theorem bigSep_three (Φ : Fin 3 → sProp 𝕄) : bigSep Finset.univ Φ = iprop(Φ 0 ∗ Φ 1 ∗ Φ 2) :=
  bigSep_univ_eq_bigSepL [0, 1, 2] (by decide) (by decide) Φ
theorem bigSep_ten (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- A device's cells: the barrier, the send cells, the receive cells. -/
theorem bigSep_cell (Φ : CellIx → sProp 𝕄) :
    bigSep Finset.univ Φ = iprop(Φ none ∗ (bigSep Finset.univ fun k => Φ (some (false, k))) ∗ bigSep Finset.univ fun k => Φ (some (true, k))) := by
  rw [← bigSep_two fun b => bigSep Finset.univ fun k : Fin 10 => Φ (some (b, k)), ← bigSep_univ_prod fun bk : Bool × Fin 10 => Φ (some bk),
    show (Finset.univ : Finset CellIx) = insert none (Finset.univ.map ⟨some, Option.some_injective _⟩) from by decide,
    bigSep_insert (by decide), bigSep_map]
  rfl

/-- The duty tokens of device `c`'s own cells, -/
def toks (c : Dev nD) : sProp 𝕄 :=
  iprop((bigSep Finset.univ fun j : Fin 3 => dutyTok ER (barCell c) 0 j)
    ∗ (bigSep Finset.univ fun k : Fin 10 => dutyTok ER (sendCell c k) 0 0)
    ∗ bigSep Finset.univ fun k : Fin 10 => dutyTok ER (recvCell c k) 0 0)
/-- and those of the duties that it pays. -/
def payToks (c : Dev nD) : sProp 𝕄 :=
  iprop((bigSep Finset.univ fun j : Fin 3 => dutyTok ER (barCell ((go j).symm c)) 0 j)
    ∗ (bigSep Finset.univ fun k : Fin 10 => dutyTok ER (sendCell c k) 0 0)
    ∗ bigSep Finset.univ fun k : Fin 10 => dutyTok ER (recvCell (tgt k c) k) 0 0)

theorem toks_eq (c : Dev nD) :
    (bigSep Finset.univ fun t : TokIx => (dutyTok ER (tokOf (c, t)).1 (tokOf (c, t)).2.1 (tokOf (c, t)).2.2 : sProp 𝕄)) = toks c := by
  rw [bigSep_univ_sum, bigSep_univ_prod, bigSep_two]; rfl

/-- The pieces that the launch deals device `c`. -/
def G (c : Dev nD) : sProp 𝕄 :=
  iprop((bigSep Finset.univ fun k : CellIx => roundState ER (sched (opW m)) (kcell (c, k)) 0)
    ∗ (bigSep Finset.univ fun k : CellIx => iprop(atPos ER (kcell (c, k)) 0 ∅ 0 ∗ reached ER (kcell (c, k)) 0)) ∗ toks c)

theorem fund_cells : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun k : CellIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (sched (opW m)) allCells allToks) $$ HX with ⟨Hst, Hr, Hat, Htok⟩
  imodintro
  ihave Hst' := (Entails.of_eq (hX fun g => roundState ER (sched (opW m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

/-- Every cell of device `c`, at zero. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [unscopedSems0_eq, bigSep_cell]
  unfold Pipeline.ownSems0
  rw [bigSep_univ_prod, bigSep_two]
  iintro ⟨⟨H1, H2⟩, HB⟩
  isplitl [HB]; · iexact HB
  isplitl [H1]; · iexact H1
  iexact H2

theorem cells_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched (opW m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0 (F := F) c) $$ [Hos Hus]
  · isplitl [Hos] <;> iassumption
  imod (show iprop((bigSep Finset.univ fun k : CellIx => semVal (kcell (c, k)) 0) ∗ bigSep Finset.univ fun k : CellIx => roundState ER (sched (opW m)) (kcell (c, k)) 0)
      ⊢ (|={Set.univ}=> bigSep Finset.univ fun k => iprop(∃ κ : ℕ, cellInv ER (sched (opW m)) κ (kcell (c, k))) : sProp 𝕄) from by
        rw [← bigSep_sep']
        exact (bigSep_mono fun k _ => (Rounds.body_intro ER (sched (opW m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the tokens of the duties that it pays. -/
def linear (c : Dev nD) : sProp 𝕄 :=
  iprop((bigSep Finset.univ fun k : CellIx => atPos ER (kcell (c, k)) 0 ∅ 0) ∗ payToks c)
def G' (c : Dev nD) : sProp 𝕄 := iprop(∃ K, records (opW m) K ∗ linear c)

/-- Two iterated conjunctions exchanged. -/
theorem bigSep_swap {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod fun ij : I × J => Φ ij.1 ij.2, ← bigSep_univ_prod fun ji : J × I => Φ ji.2 ji.1,
    bigSep_univ_equiv (Equiv.prodComm I J).symm]
  rfl

/-- The tokens go to the devices that pay them. -/
theorem toks_dealt : (bigSep Finset.univ fun c : Dev nD => (toks c : sProp 𝕄)) ⊢ bigSep Finset.univ fun c : Dev nD => payToks c := by
  have hb : (bigSep Finset.univ fun c : Dev nD => bigSep Finset.univ fun j : Fin 3 => (dutyTok ER (barCell c) 0 j : sProp 𝕄))
      = bigSep Finset.univ fun c : Dev nD => bigSep Finset.univ fun j : Fin 3 => dutyTok ER (barCell ((go j).symm c)) 0 j := by
    rw [bigSep_swap, bigSep_swap fun (c : Dev nD) (j : Fin 3) => (dutyTok ER (barCell ((go j).symm c)) 0 j : sProp 𝕄)]
    exact bigSep_congr fun j _ => bigSep_univ_equiv (go j).symm _
  have hr : (bigSep Finset.univ fun c : Dev nD => bigSep Finset.univ fun k : Fin 10 => (dutyTok ER (recvCell c k) 0 0 : sProp 𝕄))
      = bigSep Finset.univ fun c : Dev nD => bigSep Finset.univ fun k : Fin 10 => dutyTok ER (recvCell (tgt k c) k) 0 0 := by
    rw [bigSep_swap, bigSep_swap fun (c : Dev nD) (k : Fin 10) => (dutyTok ER (recvCell (tgt k c) k) 0 0 : sProp 𝕄)]
    exact bigSep_congr fun k _ => bigSep_univ_equiv (go (dirOf k)) _
  unfold toks payToks
  rw [bigSep_sep', bigSep_sep', bigSep_sep', bigSep_sep', hb, hr]

theorem bigSep_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched (opW m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CellIx => iprop(∃ κ : ℕ, cellInv ER (sched (opW m)) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (sched (opW m)) κ (kcell ck) : sProp 𝕄))) $$ HI
  icases HK with ⟨%K, #HI⟩
  ihave Htk := (toks_dealt (F := F)) $$ Htok
  iapply (bigSep_persistent (R := records (opW m) K) (Φ := linear) fun c _ => show _ ⊢ G' m c by unfold G'; iintro H; iexists K; iexact H)
  isplitr
  · unfold records; isplitl; · iexact HI
    iexact HR
  · unfold linear; rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => cells_alloc m c).trans (bigSep_fupd _ _)).trans (BI.fupd_mono (regroup m))

/-! ## The launch credit -/

theorem cred_owed (c : Dev nD) : ∀ l : List (Fin 10), l.Nodup →
    ((Pipeline.launchCred (fun d => owed d l) c : sProp 𝕄) ⊢ bigSep l.toFinset fun k => cred (tallyAt (recvCell c k) () (amt k)))
  | [], _ => by
      rw [List.toFinset_nil, bigSep_empty]
      exact Entails.of_eq (Pipeline.launchCred_zero c)
  | k :: l, h => by
      rw [List.toFinset_cons, bigSep_insert (fun hm => (List.nodup_cons.mp h).1 (List.mem_toFinset.mp hm))]
      show _ ⊢ iprop(_ ∗ _)
      refine (Entails.of_eq (Pipeline.launchCred_add (fun d => owed d l) (fun d => tallyAt (recvCell (tgt k d) k) () (amt k)) c)).trans ?_
      iintro ⟨H1, H2⟩
      isplitl [H2]
      · iapply (Pipeline.launchCred_tallyAt (SemLoc.dma (recvS k)) (go (dirOf k)) (go (dirOf k)).symm
          (fun c => (go (dirOf k)).apply_symm_apply c) (fun d => (go (dirOf k)).symm_apply_apply d) () (amt k) c)
        iexact H2
      iapply (cred_owed c l (List.nodup_cons.mp h).2)
      iexact H1

theorem cred_bar (j : Fin 3) (c : Dev nD) :
    (Pipeline.launchCred (fun d => tallyAt (barCell ((go j).symm d)) () 1) c : sProp 𝕄) ⊢ cred (tallyAt (barCell c) () 1) :=
  Pipeline.launchCred_tallyAt (SemLoc.reg barS) (go j).symm (go j) (fun c => (go j).symm_apply_apply c) (fun d => (go j).apply_symm_apply d) () 1 c

theorem tally_three (g : GSem nD τ sig) : (tallyAt g () 1 + (tallyAt g () 1 + tallyAt g () 1) : CellTallies nD τ sig Unit) = tallyAt g () 3 := by
  rw [tallyAt_add, tallyAt_add]

theorem creds (c : Dev nD) :
    (Pipeline.launchCred owed₀ c : sProp 𝕄)
      ⊢ iprop(cred (tallyAt (barCell c) () 3) ∗ bigSep Finset.univ fun k => cred (tallyAt (recvCell c k) () (amt k))) := by
  have e : (Pipeline.launchCred owed₀ c : sProp 𝕄) = iprop(((Pipeline.launchCred (fun d => owed d sendOrder) c
      ∗ Pipeline.launchCred (fun d => tallyAt (barCell ((go 2).symm d)) () 1) c)
      ∗ Pipeline.launchCred (fun d => tallyAt (barCell ((go 1).symm d)) () 1) c)
      ∗ Pipeline.launchCred (fun d => tallyAt (barCell ((go 0).symm d)) () 1) c) := by
    rw [← Pipeline.launchCred_add, ← Pipeline.launchCred_add, ← Pipeline.launchCred_add]; rfl
  rw [e, ← tally_three]
  iintro ⟨⟨⟨H, H2⟩, H1⟩, H0⟩
  isplitl [H0 H1 H2]
  · iapply (cred_add _ _).2
    isplitl [H0]; · iapply (cred_bar 0 c); iexact H0
    iapply (cred_add _ _).2
    isplitl [H1]; · iapply (cred_bar 1 c); iexact H1
    iapply (cred_bar 2 c); iexact H2
  iapply (show _ ⊢ _ from (show (Finset.univ : Finset (Fin 10)) = sendOrder.toFinset by decide) ▸ cred_owed c sendOrder (by decide))
  iexact H

/-! ## Into the body and out of it -/

/-- What a device brings, from its credit, its positions and its tokens. -/
theorem bring_intro (c : Dev nD) : iprop(Pipeline.launchCred owed₀ c ∗ linear c) ⊢ (bring (F := F) c : sProp 𝕄) := by
  have hs : iprop((bigSep Finset.univ fun k : Fin 10 => (dutyTok ER (sendCell c k) 0 0 : sProp 𝕄))
      ∗ (bigSep Finset.univ fun k : Fin 10 => dutyTok ER (recvCell (tgt k c) k) 0 0) ∗ bigSep Finset.univ fun k : Fin 10 => atPos ER (sendCell c k) 0 ∅ 0)
      = bigSep Finset.univ fun k => sendToks (F := F) c k := by
    rw [← bigSep_sep', ← bigSep_sep']; rfl
  have hr : iprop((bigSep Finset.univ fun k : Fin 10 => (cred (tallyAt (recvCell c k) () (amt k)) : sProp 𝕄))
      ∗ bigSep Finset.univ fun k : Fin 10 => atPos ER (recvCell c k) 0 ∅ 0) = bigSep Finset.univ fun k => ready (F := F) c true k := by
    rw [← bigSep_sep']; rfl
  unfold linear payToks bring
  rw [bigSep_cell]
  iintro ⟨Hc, ⟨PB, PS, PR⟩, TB, TS, TR⟩
  ihave Hc := (creds (F := F) c) $$ Hc
  icases Hc with ⟨CB, CR⟩
  isplitl [TB]
  · iapply (Entails.of_eq (bigSep_three fun j : Fin 3 => (dutyTok ER (barCell ((go j).symm c)) 0 j : sProp 𝕄)))
    iexact TB
  isplitl [CB PB]
  · unfold waitRight; isplitl [CB]; · iexact CB
    iexact PB
  isplitl [TS TR PS]
  · iapply ((Entails.of_eq hs).trans (Entails.of_eq (bigSep_ten fun k => sendToks (F := F) c k)))
    isplitl [TS]; · iexact TS
    isplitl [TR]; · iexact TR
    iexact PS
  iapply ((Entails.of_eq hr).trans (Entails.of_eq (bigSep_ten fun k => ready (F := F) c true k)))
  isplitl [CR]; · iexact CR
  iexact PR

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  unfold G'
  iintro ⟨-, Hlev, Hcr, -, ⟨%K, Hrec, Hlin⟩⟩
  imodintro
  isplitl
  · unfold start
    isplitl [Hrec]; · iexists K; iexact Hrec
    isplitl [Hcr Hlin]
    · iapply (bring_intro (F := F) c); isplitl [Hcr] <;> iassumption
    iexact Hlev
  · iempintro

theorem phi_first (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scopedRest0_eq]
  unfold before
  iintro ⟨Hs, -, ⟨%f, Hr⟩⟩
  isplitl [Hs]; · iexact Hs
  iexists f; unfold scr; iexact Hr

theorem own_shut (c : Dev nD) :
    (Pipeline.ownSems0 (Ix := Unit) (Name := ℕ) (U := UU) (Lvl := ℕ) (Val := Elt F) (τ := τ) osem c : sProp 𝕄)
      = iprop((bigSep Finset.univ fun k => shut (F := F) c false k) ∗ bigSep Finset.univ fun k => shut (F := F) c true k) := by
  unfold Pipeline.ownSems0
  rw [bigSep_univ_prod, bigSep_two]; rfl

theorem phi_last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after m c from rfl, scopedRest0_eq, unscopedSems0_eq, own_shut, bigSep_ten, bigSep_ten]
  unfold after allShut scr
  iintro ⟨Hr, HB, S0, S1, S2, S3, S4, S5, S6, S7, S8, S9, HR⟩
  isplitl [HB]; · iexact HB
  isplitr [Hr]
  · isplitr [HR]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact HR
  iexists (full (opW m) c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The array of window `w` on device `c` after the run. -/
def finalArr (c : Dev nD) (w : Fin cfg0.W) : Buf (Elt F) ((cfg0.win w).arr.view.loc (c : Thread nD τ)) := (dats m ρ 0 c).arrAt w cfg0.N

/-- Every execution ends, with every array at its final contents and every semaphore at zero. -/
theorem run_main : θ_run defs (onTc (τ := τ) (main (F := F))) (mem₀ m ρ) (fun r =>
    (∀ (c : Dev nD) (w : Fin cfg0.W), r.2.mem ((cfg0.win w).arr.view.loc (c : Thread nD τ)) = finalArr m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe

end
-- ==== Proof.Frames.lean ====
/-
# The frames

The kernel's run read at its arguments and its result, and the claims that every program ends with its arguments
unchanged and its counters at zero.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Adequacy
public import Idealize.ShloMosaic.Lib.Pipeline.ValueKit
public import Idealize.ShloMosaic.Lib.Claim

@[expose] public section

set_option maxRecDepth 16384

noncomputable section

namespace Cert.Moe

open Cert.KernelIdeal Cert.KernelIdeal.Gen
open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- The kernel's arguments on device `c`, as launched. -/
abbrev argX (c : Dev nD) : Vec F S1024x256 .bf16 := m ((c.tc : Thread nD τ).loc main_arg0)
abbrev argGate (c : Dev nD) : Vec F S256x32 .bf16 := m ((c.tc : Thread nD τ).loc main_arg1)
abbrev argIdx (c : Dev nD) : Vec F S1024x1 .i32 := m ((c.tc : Thread nD τ).loc main_arg2)
abbrev argW (c : Dev nD) : WBlock F := m ((c.tc : Thread nD τ).loc main_arg3)
abbrev argShared (c : Dev nD) : Vec F S256x512 .bf16 := m ((c.tc : Thread nD τ).loc main_arg4)

/-! The one grid point's blocks are whole arrays. -/

theorem opX_eq (c : Dev nD) : opX m c = argX m c := by
  funext j; blk_simp [opX, iblk]
  refine congrArg (argX m c) (funext fun a => Fin.ext ?_)
  fin_cases a <;> blk_simp [Pipeline.Window.cell_apply] <;> first | rfl | exact Nat.zero_add _
theorem opGate_eq (c : Dev nD) : opGate m c = argGate m c := by
  funext j; blk_simp [opGate, iblk]
  refine congrArg (argGate m c) (funext fun a => Fin.ext ?_)
  fin_cases a <;> blk_simp [Pipeline.Window.cell_apply] <;> first | rfl | exact Nat.zero_add _
theorem opIdx_eq (c : Dev nD) : opIdx m c = argIdx m c := by
  funext j; blk_simp [opIdx, iblk]
  refine congrArg (argIdx m c) (funext fun a => Fin.ext ?_)
  fin_cases a <;> blk_simp [Pipeline.Window.cell_apply] <;> first | rfl | exact Nat.zero_add _
theorem opW_eq (c : Dev nD) : opW m c = argW m c := by
  funext j; blk_simp [opW, iblk]
  refine congrArg (argW m c) (funext fun a => Fin.ext ?_)
  fin_cases a <;> blk_simp [Pipeline.Window.cell_apply] <;> first | rfl | exact Nat.zero_add _
theorem opShared_eq (c : Dev nD) : opShared m c = argShared m c := by
  funext j; blk_simp [opShared, iblk]
  refine congrArg (argShared m c) (funext fun a => Fin.ext ?_)
  fin_cases a <;> blk_simp [Pipeline.Window.cell_apply] <;> first | rfl | exact Nat.zero_add _

/-- The result array ends at what the body leaves in the output window. -/
theorem finalArr_out (c : Dev nD) :
    finalArr m ρ c 5 = kOut (argW m) c (argX m c) (argGate m c) (argIdx m c) (argShared m c) := by
  refine ((dats m ρ 0 c).arrAt_eq_of_after_last 5 t0_0 (by decide +kernel) _ fun j => ?_)
  blk_simp
  exact congrFun (show result m c = _ by rw [result, opX_eq, opGate_eq, opIdx_eq, opShared_eq, funext (opW_eq m)]) j

/-- The run, read at the arguments and the result. -/
theorem run_read : θ_run defs (onTc (τ := τ) (main (F := F))) ⟨m, fun _ => 0, ρ⟩ (fun r =>
    (∀ c : Dev nD,
      r.2.mem ((c.tc : Thread nD τ).loc main_v1) = kOut (argW m) c (argX m c) (argGate m c) (argIdx m c) (argShared m c)
      ∧ r.2.mem ((c.tc : Thread nD τ).loc main_arg0) = argX m c
      ∧ r.2.mem ((c.tc : Thread nD τ).loc main_arg1) = argGate m c
      ∧ r.2.mem ((c.tc : Thread nD τ).loc main_arg2) = argIdx m c
      ∧ r.2.mem ((c.tc : Thread nD τ).loc main_arg3) = argW m c
      ∧ r.2.mem ((c.tc : Thread nD τ).loc main_arg4) = argShared m c)
    ∧ r.2.sem = fun _ => 0) :=
  (θ_run defs _ _).mono (fun r h => ⟨fun c => ⟨(h.1 c 5).trans (finalArr_out m ρ c),
      (h.1 c 0).trans ((dats m ρ 0 c).arrAt_in 0 rfl _),
      (h.1 c 1).trans ((dats m ρ 0 c).arrAt_in 1 rfl _),
      (h.1 c 2).trans ((dats m ρ 0 c).arrAt_in 2 rfl _),
      (h.1 c 3).trans ((dats m ρ 0 c).arrAt_in 3 rfl _),
      (h.1 c 4).trans ((dats m ρ 0 c).arrAt_in 4 rfl _)⟩, h.2⟩) (run_main m ρ)

/-- The kernel and its ideal reading have the same text: the same functions, -/
theorem defs_same : Cert.Kernel.defs (F := F) = Cert.KernelIdeal.defs (F := F) := by
  refine congrArg (Pipeline.defs _) (show Cert.Kernel.defs₀ (F := F) = Cert.KernelIdeal.defs₀ (F := F) from ?_)
  refine congrArg Defs.onTc (funext fun l => funext fun a => ?_)
  match l, a with
  | 0, (t, s) => rfl
  | ⟨_ + 1, h⟩, _ => exact absurd h (Nat.not_lt.2 (Nat.le_add_left _ _))

/-- so the kernel at the chip's floats: the arguments end unchanged, the counters at zero. -/
theorem frame_kernel : Cert.quiescent_Kernel := fun m ρ _ => by
  rw [defs_same]
  refine OrdCont.mono (θ_run (Cert.KernelIdeal.defs (F := Bits)) (onTc (τ := Cert.KernelIdeal.τ) (Cert.KernelIdeal.main (F := Bits))) _) ?_ (run_read (F := Bits) m ρ)
  exact fun _ h => ⟨fun c => (h.1 c).2, h.2⟩

/-- The kernel over the extended reals: the same. -/
theorem frame_kernelIdeal : Cert.quiescent_KernelIdeal := fun m ρ _ =>
  (θ_run Cert.KernelIdeal.defs _ _).mono (fun _ h => ⟨fun c => (h.1 c).2, h.2⟩) (run_read (F := Ideal) m ρ)

/-- The reference: the same. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The facts the two readings of the precondition state. -/
theorem pre_kernel_facts : Cert.Pre_finite_in_range_KernelIdeal.Facts :=
  ⟨by decide, by decide, by decide, by decide, by decide, by decide, by decide, by decide⟩
theorem pre_reference_facts : Cert.Pre_finite_in_range_ReferenceIdeal.Facts :=
  ⟨by decide, by decide, by decide, by decide, by decide, by decide, by decide, by decide⟩

end Cert.Moe

end
-- ==== Proof.Spec.lean ====
/-
# One token's output

What the layer computes of one token: the softmax gate of its expert times that expert's product, added to the shared
expert's product. Everything is an extended real.
-/
module

public import Idealize.ShloMosaic.PureOps.Ideal

@[expose] public section

noncomputable section

namespace Cert.Moe

open Idealize.ShloMosaic

/-- A token's product with one column of weights. -/
def prod (x w : Fin 256 → EReal) : EReal := ∑ k, x k * w k

/-- The token's router scores, -/
def score (x : Fin 256 → EReal) (g : Fin 256 → Fin 32 → EReal) (e : Fin 32) : EReal := prod x (g · e)
/-- the greatest of them, -/
def best (x : Fin 256 → EReal) (g : Fin 256 → Fin 32 → EReal) : EReal :=
  Finset.fold max (Ideal.ofBits .f32 0xFF800000#32) (score x g) Finset.univ
/-- the exponential of a score below the greatest, -/
def weight (x : Fin 256 → EReal) (g : Fin 256 → Fin 32 → EReal) (e : Fin 32) : EReal := Ideal.exp (score x g e - best x g)
/-- and the softmax gate of expert `e`. -/
def gate (x : Fin 256 → EReal) (g : Fin 256 → Fin 32 → EReal) (e : Fin 32) : EReal := Ideal.div (weight x g e) (∑ e', weight x g e')

/-- One element of the token's output: `w` is the column of its expert's weights, `s` that of the shared expert's. -/
def token (x : Fin 256 → EReal) (g : Fin 256 → Fin 32 → EReal) (e : Fin 32) (w s : Fin 256 → EReal) : EReal :=
  prod x s + gate x g e * prod x w

/-! ## The gate is a nonnegative number -/

/-- The word the maximum starts from is the least extended real. -/
theorem negInf_eq : Ideal.ofBits .f32 0xFF800000#32 = ⊥ := by simp [Ideal.ofBits, Ideal.ieee]

/-- A sum of reals is the same sum in the extended reals. -/
theorem coe_sum {n : ℕ} (f : Fin n → ℝ) : ((∑ k, f k : ℝ) : EReal) = ∑ k, (f k : EReal) :=
  map_sum (⟨⟨Real.toEReal, rfl⟩, EReal.coe_add⟩ : ℝ →+ EReal) f Finset.univ

/-- A product of finite rows is finite. -/
theorem prod_finite {x w : Fin 256 → EReal} (hx : ∀ k, ∃ a : ℝ, x k = a) (hw : ∀ k, ∃ a : ℝ, w k = a) : ∃ a : ℝ, prod x w = a := by
  choose a ha using hx
  choose b hb using hw
  refine ⟨∑ k, a k * b k, ?_⟩
  unfold prod
  simp only [ha, hb, ← EReal.coe_mul]
  exact (coe_sum _).symm

section
variable {x : Fin 256 → EReal} {g : Fin 256 → Fin 32 → EReal} (hx : ∀ k, ∃ a : ℝ, x k = a) (hg : ∀ k e, ∃ a : ℝ, g k e = a)
include hx hg

/-- Finite features and router weights give finite scores. -/
theorem score_finite (e : Fin 32) : ∃ a : ℝ, score x g e = a := prod_finite hx (hg · e)

/-- The greatest of finite scores is finite. -/
theorem best_finite : ∃ a : ℝ, best x g = a := by
  have h1 : best x g ≠ ⊤ := by
    refine ne_of_lt ((Finset.fold_max_lt _).2 ⟨by rw [negInf_eq]; exact bot_lt_top, fun e _ => ?_⟩)
    obtain ⟨a, ha⟩ := score_finite hx hg e
    rw [ha]; exact EReal.coe_lt_top a
  have h2 : best x g ≠ ⊥ := by
    obtain ⟨a, ha⟩ := score_finite hx hg 0
    refine ne_of_gt (lt_of_lt_of_le (EReal.bot_lt_coe a) ?_)
    exact (Finset.le_fold_max _).2 (.inr ⟨0, Finset.mem_univ _, ha.ge⟩)
  exact ⟨(best x g).toReal, (EReal.coe_toReal h1 h2).symm⟩

/-- The exponentials are positive numbers. -/
theorem weight_finite (e : Fin 32) : ∃ a : ℝ, 0 < a ∧ weight x g e = a := by
  obtain ⟨a, ha⟩ := score_finite hx hg e
  obtain ⟨b, hb⟩ := best_finite hx hg
  refine ⟨Real.exp (a - b), Real.exp_pos _, ?_⟩
  unfold weight
  rw [ha, hb, ← EReal.coe_sub]
  rfl

/-- The gate of a token with finite features is a nonnegative number. -/
theorem gate_finite (e : Fin 32) : ∃ a : ℝ, 0 ≤ a ∧ gate x g e = a := by
  choose a ha h using weight_finite hx hg
  have hs : (∑ e', weight x g e') = ((∑ e', a e' : ℝ) : EReal) := by
    simp only [h]
    exact (coe_sum _).symm
  have hp : 0 < ∑ e', a e' := Finset.sum_pos (fun e' _ => ha e') ⟨0, Finset.mem_univ _⟩
  refine ⟨a e * (∑ e', a e')⁻¹, mul_nonneg (ha e).le (inv_nonneg.2 hp.le), ?_⟩
  unfold gate Ideal.div
  rw [hs, h, if_neg (by exact_mod_cast hp.ne'), ← EReal.coe_inv, ← EReal.coe_mul]

end

/-- A nonnegative number multiplies a sum term by term, whatever the terms. -/
theorem mul_sum {ι : Type} (s : Finset ι) {a : ℝ} (ha : 0 ≤ a) (f : ι → EReal) : (a : EReal) * ∑ k ∈ s, f k = ∑ k ∈ s, a * f k := by
  classical
  induction s using Finset.induction_on with
  | empty => simp
  | insert i s hi ih =>
    rw [Finset.sum_insert hi, Finset.sum_insert hi, ← ih]
    exact EReal.left_distrib_of_nonneg_of_ne_top (EReal.coe_nonneg.2 ha) (EReal.coe_ne_top a) _ _

/-- Scaling a row by a finite nonnegative gate scales its products. -/
theorem prod_scaled {p : EReal} (hp : ∃ a : ℝ, 0 ≤ a ∧ p = a) (x w : Fin 256 → EReal) : prod (fun k => p * x k) w = p * prod x w := by
  obtain ⟨a, ha, rfl⟩ := hp
  unfold prod
  rw [mul_sum _ ha]
  exact Finset.sum_congr rfl fun k _ => mul_assoc _ _ _

end Cert.Moe

end
-- ==== Proof.Chunk.lean ====
/-
# What one block of experts adds

The kernel multiplies the tokens routed to a block of experts by that block's weights, four experts or two at a time.
-/
module

public import proofs.«01_k».proof.Proof.Body
public import proofs.«01_k».proof.Proof.Spec
public import Idealize.ShloMosaic.Lib.Pointwise
public import Idealize.ShloMosaic.Lib.IdealHost
public import Idealize.ShloMosaic.Lib.ValueIdx

@[expose] public section

set_option maxRecDepth 16384

noncomputable section

namespace Cert.Moe

open Cert.KernelIdeal Cert.KernelIdeal.Gen Cert.KernelIdeal.Facts
open Idealize.ShloMosaic

variable {F : FTy → Type} [FloatOps F]

/-- The tokens routed to expert `e`: their features, and zero elsewhere. -/
def routedTo (idx : IVec S1024x1 32) (px z : FVec F S1024x256 .bf16) (e : BitVec 32) : FVec F S1024x256 .bf16 :=
  select (broadcastTo S1024x256 (shapeCast S1024x1 (cmpi .eq idx (broadcast S1024x1 e)) shapeCasts_S1024x1_S1024x1) broadcasts_S1024x1_S1024x256) px z

/-- Four experts' share added to `acc`. -/
def addFour (acc : FVec F S1024x512 .f32) (a b c d : FVec F S1024x256 .bf16) (X : Vec F S1x4x256x512 .bf16) : FVec F S1024x512 .f32 :=
  addf acc (matmul dot_S1024x1024_S1024x512_S1024x512_1_0_0_1_n_n none
    (concatenate S1024x1024 1 [⟨S1024x256, a⟩, ⟨S1024x256, b⟩, ⟨S1024x256, c⟩, ⟨S1024x256, d⟩]
      concatenates_S1024x256_S1024x256_S1024x256_S1024x256_S1024x1024_d1)
    (shapeCast S1024x512 (shapeCast S4x256x512 X shapeCasts_S1x4x256x512_S4x256x512) shapeCasts_S4x256x512_S1024x512 : FVec F S1024x512 .bf16)
    (constant S1024x512 .f32 0x00000000#32))

/-- A sum over four times 256 terms, cut in four. -/
theorem sum_four (f : Fin 1024 → EReal) : ∑ x, f x = ∑ k : Fin 256, f ⟨k.val, by omega⟩ + (∑ k : Fin 256, f ⟨256 + k.val, by omega⟩
    + (∑ k : Fin 256, f ⟨512 + k.val, by omega⟩ + ∑ k : Fin 256, f ⟨768 + k.val, by omega⟩)) := by
  rw [Fin.sum_univ_two_halves 256 768 rfl f, Fin.sum_univ_two_halves 256 512 rfl, Fin.sum_univ_two_halves 256 256 rfl]
  simp only [← Nat.add_assoc]

/-- Two experts' share added to `acc`. -/
def addTwo (acc : FVec F S1024x512 .f32) (a b : FVec F S1024x256 .bf16) (X : Vec F S1x2x256x512 .bf16) : FVec F S1024x512 .f32 :=
  addf acc (matmul dot_S1024x512_S512x512_S1024x512_1_0_0_1_n_n none
    (concatenate S1024x512 1 [⟨S1024x256, a⟩, ⟨S1024x256, b⟩] concatenates_S1024x256_S1024x256_S1024x512_d1)
    (shapeCast S512x512 (shapeCast S2x256x512 X shapeCasts_S1x2x256x512_S2x256x512) shapeCasts_S2x256x512_S512x512 : FVec F S512x512 .bf16)
    (constant S1024x512 .f32 0x00000000#32))

theorem addTwo_apply (acc : FVec Ideal S1024x512 .f32) (a b : FVec Ideal S1024x256 .bf16) (X : Vec Ideal S1x2x256x512 .bf16)
    (r : Fin 1024) (h : Fin 512) :
    addTwo (F := Ideal) acc a b X (ix2 r h) = acc (ix2 r h) + (∑ k : Fin 256, a (ix2 r k) * X (ix4 0 0 k h) + ∑ k : Fin 256, b (ix2 r k) * X (ix4 0 1 k h)) := by
  pointwise [addTwo]
  refine congrArg _ (congrArg₂ _ (Finset.sum_congr rfl fun k _ => ?_) (Finset.sum_congr rfl fun k _ => ?_)) <;>
    refine congrArg _ (congrArg X (congrArg₂ (ix4 0 · · h) (Fin.ext ?_) (Fin.ext ?_))) <;> simp <;> omega

theorem addFour_apply (acc : FVec Ideal S1024x512 .f32) (a b c d : FVec Ideal S1024x256 .bf16) (X : Vec Ideal S1x4x256x512 .bf16)
    (r : Fin 1024) (h : Fin 512) :
    addFour (F := Ideal) acc a b c d X (ix2 r h) = acc (ix2 r h) + (∑ k : Fin 256, a (ix2 r k) * X (ix4 0 0 k h) + (∑ k : Fin 256, b (ix2 r k) * X (ix4 0 1 k h)
      + (∑ k : Fin 256, c (ix2 r k) * X (ix4 0 2 k h) + ∑ k : Fin 256, d (ix2 r k) * X (ix4 0 3 k h)))) := by
  pointwise [addFour]
  rw [sum_four]
  refine congrArg _ (congrArg₂ _ (Finset.sum_congr rfl fun k _ => ?_) (congrArg₂ _ (Finset.sum_congr rfl fun k _ => ?_)
    (congrArg₂ _ (Finset.sum_congr rfl fun k _ => ?_) (Finset.sum_congr rfl fun k _ => ?_))))
  · refine congrArg₂ _ ((dif_pos (by simp <;> omega)).trans ?_) ?_
    · rfl
    · exact congrArg X (congrArg₂ (ix4 0 · · h) (Fin.ext (by simp <;> omega)) (Fin.ext (by simp <;> omega)))
  · refine congrArg₂ _ ((dif_neg (by simp <;> omega)).trans ((dif_pos (by simp <;> omega)).trans ?_)) ?_
    · exact congrArg (fun i => b (ix2 r i)) (Fin.ext (by simp))
    · exact congrArg X (congrArg₂ (ix4 0 · · h) (Fin.ext (by simp <;> omega)) (Fin.ext (by simp <;> omega)))
  · refine congrArg₂ _ ((dif_neg (by simp <;> omega)).trans ((dif_neg (by simp <;> omega)).trans ((dif_pos (by simp <;> omega)).trans ?_))) ?_
    · exact congrArg (fun i => c (ix2 r i)) (Fin.ext (by simp <;> omega))
    · exact congrArg X (congrArg₂ (ix4 0 · · h) (Fin.ext (by simp <;> omega)) (Fin.ext (by simp <;> omega)))
  · refine congrArg₂ _ ((dif_neg (by simp <;> omega)).trans ((dif_neg (by simp <;> omega)).trans ((dif_neg (by simp <;> omega)).trans ?_))) ?_
    · exact congrArg (fun i => d (ix2 r i)) (Fin.ext (by simp <;> omega))
    · exact congrArg X (congrArg₂ (ix4 0 · · h) (Fin.ext (by simp <;> omega)) (Fin.ext (by simp <;> omega)))

/-- A choice by the equality of two words. -/
theorem select_eq {α : Type} (a b : BitVec 32) (x y : α) : Scalar.select (IntOp.cmpi .eq a b) x y = if a = b then x else y := by
  by_cases h : a = b
  · rw [if_pos h]; exact if_pos (IntOp.cmpi_eq.2 h)
  · rw [if_neg h]; exact if_neg fun h' => h (IntOp.cmpi_eq.1 h')

/-- Different experts have different words. -/
theorem word_inj {a b : Fin 32} (h : BitVec.ofNat 32 a.val = BitVec.ofNat 32 b.val) : a = b := by
  have := congrArg BitVec.toNat h
  simp only [BitVec.toNat_ofNat] at this
  omega

theorem routedTo_apply (idx : IVec S1024x1 32) (px z : FVec F S1024x256 .bf16) (e : BitVec 32) (r : Fin 1024) (k : Fin 256) :
    routedTo idx px z e (ix2 r k) = if idx (ix2 r 0) = e then px (ix2 r k) else z (ix2 r k) := by
  pointwise [routedTo]
  exact select_eq _ _ _ _

/-- The tokens times their gates: the gate is picked out of the softmax by the token's routing index. -/
theorem pay6_apply (x : Vec Ideal S1024x256 .bf16) (g : Vec Ideal S256x32 .bf16) (i : Vec Ideal S1024x1 .i32) (r : Fin 1024) (k : Fin 256)
    (e : Fin 32) (he : i (ix2 r 0) = BitVec.ofNat 32 e.val) :
    k0_pay6 (F := Ideal) x g i (ix2 r k) = gate (fun k => x (ix2 r k)) (fun k e => g (ix2 k e)) e * x (ix2 r k) := by
  pointwise [k0_pay6, k0_pay3, k0_pay4]
  refine congrArg₂ _ ?_ rfl
  rw [he]
  refine (Finset.sum_eq_single_of_mem e (Finset.mem_univ _) fun e' _ h => ?_).trans ?_
  · rw [select_eq, if_neg (word_inj.mt h)]
  · rw [select_eq, if_pos rfl]; rfl

/-- The shared expert's products. -/
theorem pay5_apply (x : Vec Ideal S1024x256 .bf16) (w : Vec Ideal S256x512 .bf16) (r : Fin 1024) (h : Fin 512) :
    k0_pay5 (F := Ideal) x w (ix2 r h) = prod (fun k => x (ix2 r k)) (fun k => w (ix2 k h)) := by
  pointwise [k0_pay5, k0_pay3]
  rfl

/-- What stands for the tokens of other experts. -/
theorem pay7_apply (r : Fin 1024) (k : Fin 256) : k0_pay7 (F := Ideal) (ix2 r k) = 0 := by
  pointwise [k0_pay7]

/-! ## The result, block by block -/

/-- The word of expert `j` past `lo` of the device whose word is `w`, as the kernel computes it. -/
def eWord (w lo j : BitVec 32) : BitVec 32 := Scalar.addi (Scalar.addi (Scalar.muli w 4#32) lo) j

section
variable (idx : IVec S1024x1 32) (px z : FVec F S1024x256 .bf16) (w : BitVec 32) (acc : FVec F S1024x512 .f32)

/-- A device's four experts. -/
def slotStep (X : Vec F S1x4x256x512 .bf16) : FVec F S1024x512 .f32 :=
  addFour acc (routedTo idx px z (eWord w 0#32 0#32)) (routedTo idx px z (eWord w 0#32 1#32)) (routedTo idx px z (eWord w 0#32 2#32))
    (routedTo idx px z (eWord w 0#32 3#32)) X

/-- Two of a device's experts, from `lo` on. -/
def halfStep (lo : BitVec 32) (X : Vec F S1x2x256x512 .bf16) : FVec F S1024x512 .f32 :=
  addTwo acc (routedTo idx px z (eWord w lo 0#32)) (routedTo idx px z (eWord w lo 1#32)) X
end

/-- The body's result: block after block is added to the shared expert's products. -/
theorem kOut_steps (W : Dev nD → WBlock F) (c : Dev nD) (x0 : Vec F S1024x256 .bf16) (x1 : Vec F S256x32 .bf16) (x2 : Vec F S1024x1 .i32)
    (x4 : Vec F S256x512 .bf16) :
    kOut W c x0 x1 x2 x4 =
      (let idx := k0_pay4 x2
       let px := k0_pay6 x0 x1 x2
       let z := k0_pay7 (F := F)
       let a0 := slotStep idx px z (wMe c) (k0_pay5 x0 x4) (slotVec (W c))
       let a1 := slotStep idx px z (wLeft c) a0 (slotVec (W (left c)))
       let a2 := slotStep idx px z (wRight c) a1 (slotVec (W (right c)))
       let a3 := slotStep idx px z (wAcross c) a2 (slotVec (W (across c)))
       let a4 := halfStep idx px z (wOpp (wLeft c)) a3 2#32 (halfVec 2 (by decide) (W (left (across c))))
       let a5 := halfStep idx px z (wOpp (wRight c)) a4 0#32 (halfVec 0 (by decide) (W (right (across c))))
       let a6 := halfStep idx px z (wOpp (wRight c)) a5 2#32 (halfVec 2 (by decide) (W (right (across c))))
       let a7 := slotStep idx px z (wFacing c) a6 (slotVec (W (facing c)))
       let a8 := halfStep idx px z (wOpp (wFacing c)) a7 0#32 (halfVec 0 (by decide) (W (facing (across c))))
       let a9 := halfStep idx px z (wOpp (wLeft c)) a8 0#32 (halfVec 0 (by decide) (W (left (across c))))
       halfStep idx px z (wOpp (wFacing c)) a9 2#32 (halfVec 2 (by decide) (W (facing (across c))))) := by
  rfl

end Cert.Moe

end
-- ==== Proof.Value.lean ====
/-
# The kernel's result, element by element

The eleven blocks cover each of the 32 experts once, so of what they add to a token's output only its own expert's
product is not zero.
-/
module

public import proofs.«01_k».proof.Proof.Chunk

@[expose] public section

set_option maxRecDepth 16384

noncomputable section

namespace Cert.Moe

open Cert.KernelIdeal Cert.KernelIdeal.Gen Cert.KernelIdeal.Facts
open Idealize.ShloMosaic

/-! ## The experts' numbers -/

/-- Expert `j` of device `d`, among all. -/
def expert (d : Dev nD) (j : Fin 4) : Fin 32 := ⟨4 * d.val + j.val, by have : d.val < 8 := d.isLt; omega⟩

/-- Every expert is one of one device's. -/
theorem expert_cover (e : Fin 32) : ∃ d j, expert d j = e :=
  ⟨⟨e.val / 4, by have : e.val < 32 := e.isLt; show _ < 8; omega⟩, ⟨e.val % 4, by omega⟩, Fin.ext (by simp only [expert]; omega)⟩

/-- Different devices have different experts. -/
theorem expert_inj {d d' : Dev nD} {j j' : Fin 4} (h : expert d j = expert d' j') : d = d' ∧ j = j' := by
  have h := congrArg Fin.val h
  simp only [expert] at h
  exact ⟨Fin.ext (by omega), Fin.ext (by omega)⟩

/-- The kernel's word `w` is the number of device `d`. -/
def IsWord (w : BitVec 32) (d : Dev nD) : Prop := w = BitVec.ofNat 32 d.val

/-- From a device's word the kernel computes its experts' words. -/
theorem eWord_eq {w : BitVec 32} {d : Dev nD} (hw : IsWord w d) (lo j : Fin 4) (k : Fin 4) (h : lo.val + j.val = k.val) :
    eWord w (BitVec.ofNat 32 lo.val) (BitVec.ofNat 32 j.val) = BitVec.ofNat 32 (expert d k).val := by
  subst hw; revert d lo j k; decide +kernel

/-- The words of the device and of its seven companions. -/
theorem words (c : Dev nD) : IsWord (wMe c) c ∧ IsWord (wLeft c) (left c) ∧ IsWord (wRight c) (right c) ∧ IsWord (wAcross c) (across c)
    ∧ IsWord (wFacing c) (facing c) ∧ IsWord (wOpp (wLeft c)) (left (across c)) ∧ IsWord (wOpp (wRight c)) (right (across c))
    ∧ IsWord (wOpp (wFacing c)) (facing (across c)) := by
  unfold IsWord; revert c; decide +kernel

/-- The eight owners of a device's slots are the eight devices. -/
theorem owner_bijective (c : Dev nD) : Function.Bijective fun s : Fin 8 => owner c s.val :=
  Finite.injective_iff_bijective.1 (by unfold Function.Injective; revert c; decide +kernel)

/-! ## What each block adds -/

section
variable (W : Dev nD → WBlock Ideal) (x0 : Vec Ideal S1024x256 .bf16) (x1 : Vec Ideal S256x32 .bf16) (x2 : Vec Ideal S1024x1 .i32)
  (r : Fin 1024) (h : Fin 512) (e : Fin 32)

/-- What expert `j` of device `d` adds to the token of row `r`, whose expert is `e`. -/
def share (d : Dev nD) (j : Fin 4) : EReal :=
  if e = expert d j then prod (fun k => k0_pay6 (F := Ideal) x0 x1 x2 (ix2 r k)) (fun k => W d (ix3 j k h)) else 0

variable (he : x2 (ix2 r 0) = BitVec.ofNat 32 e.val)
include he

/-- The product of the tokens routed to one expert. -/
theorem routed_prod {w : BitVec 32} {d : Dev nD} (hw : IsWord w d) (lo j k : Fin 4) (hk : lo.val + j.val = k.val) (v : Fin 256 → EReal)
    (hv : v = fun i => W d (ix3 k i h)) :
    ∑ i : Fin 256, routedTo (F := Ideal) (k0_pay4 x2) (k0_pay6 x0 x1 x2) k0_pay7 (eWord w (BitVec.ofNat 32 lo.val) (BitVec.ofNat 32 j.val)) (ix2 r i) * v i
      = share W x0 x1 x2 r h e d k := by
  subst hv
  simp only [routedTo_apply, pay7_apply, eWord_eq hw lo j k hk]
  rw [show k0_pay4 (F := Ideal) x2 (ix2 r 0) = BitVec.ofNat 32 e.val from by pointwise [k0_pay4, he]]
  unfold share
  by_cases h' : e = expert d k
  · simp only [h', if_true]; rfl
  · simp only [if_neg h', if_neg (word_inj.mt h'), zero_mul, Finset.sum_const_zero]

/-- A device's four experts. -/
theorem slotStep_apply {w : BitVec 32} {d : Dev nD} (hw : IsWord w d) (acc : FVec Ideal S1024x512 .f32) :
    slotStep (F := Ideal) (k0_pay4 x2) (k0_pay6 x0 x1 x2) k0_pay7 w acc (slotVec (W d)) (ix2 r h)
      = acc (ix2 r h) + (share W x0 x1 x2 r h e d 0 + (share W x0 x1 x2 r h e d 1 + (share W x0 x1 x2 r h e d 2 + share W x0 x1 x2 r h e d 3))) := by
  unfold slotStep
  rw [addFour_apply]
  have hv : ∀ j : Fin 4, (fun i => slotVec (W d) (ix4 0 j i h)) = fun i => W d (ix3 j i h) := fun j => funext fun i =>
    congrArg (W d) (by funext a; fin_cases a <;> rfl)
  exact congrArg₂ _ rfl (congrArg₂ _ (routed_prod W x0 x1 x2 r h e he hw 0 0 0 rfl _ (hv 0)) (congrArg₂ _ (routed_prod W x0 x1 x2 r h e he hw 0 1 1 rfl _ (hv 1))
    (congrArg₂ _ (routed_prod W x0 x1 x2 r h e he hw 0 2 2 rfl _ (hv 2)) (routed_prod W x0 x1 x2 r h e he hw 0 3 3 rfl _ (hv 3)))))

/-- Two of a device's experts. -/
theorem halfStep_apply {w : BitVec 32} {d : Dev nD} (hw : IsWord w d) (acc : FVec Ideal S1024x512 .f32) (lo j j' : Fin 4) (hj : lo.val = j.val)
    (hj' : lo.val + 1 = j'.val) (hlo : lo.val + 2 ≤ 4) :
    halfStep (F := Ideal) (k0_pay4 x2) (k0_pay6 x0 x1 x2) k0_pay7 w acc (BitVec.ofNat 32 lo.val) (halfVec lo.val hlo (W d)) (ix2 r h)
      = acc (ix2 r h) + (share W x0 x1 x2 r h e d j + share W x0 x1 x2 r h e d j') := by
  unfold halfStep
  rw [addTwo_apply]
  have hv : ∀ (i : Fin 2) (j : Fin 4), lo.val + i.val = j.val → (fun k => halfVec lo.val hlo (W d) (ix4 0 i k h)) = fun k => W d (ix3 j k h) :=
    fun i j hij => funext fun k => congrArg (W d) (by
      funext a; fin_cases a
      · exact Fin.ext hij
      · exact Fin.ext (Nat.zero_add _)
      · exact Fin.ext (Nat.zero_add _))
  exact congrArg₂ _ rfl (congrArg₂ _ (routed_prod W x0 x1 x2 r h e he hw lo 0 j hj _ (hv 0 j hj)) (routed_prod W x0 x1 x2 r h e he hw lo 1 j' hj' _ (hv 1 j' hj')))

/-- The first two experts of a device. -/
theorem lowStep_apply {w : BitVec 32} {d : Dev nD} (hw : IsWord w d) (acc : FVec Ideal S1024x512 .f32) :
    halfStep (F := Ideal) (k0_pay4 x2) (k0_pay6 x0 x1 x2) k0_pay7 w acc 0#32 (halfVec 0 (by decide) (W d)) (ix2 r h)
      = acc (ix2 r h) + (share W x0 x1 x2 r h e d 0 + share W x0 x1 x2 r h e d 1) :=
  halfStep_apply W x0 x1 x2 r h e he hw acc 0 0 1 rfl rfl (by decide)

/-- The last two experts of a device. -/
theorem highStep_apply {w : BitVec 32} {d : Dev nD} (hw : IsWord w d) (acc : FVec Ideal S1024x512 .f32) :
    halfStep (F := Ideal) (k0_pay4 x2) (k0_pay6 x0 x1 x2) k0_pay7 w acc 2#32 (halfVec 2 (by decide) (W d)) (ix2 r h)
      = acc (ix2 r h) + (share W x0 x1 x2 r h e d 2 + share W x0 x1 x2 r h e d 3) :=
  halfStep_apply W x0 x1 x2 r h e he hw acc 2 2 3 rfl rfl (by decide)

/-! ## The sum of the blocks -/

/-- The body's result at an element: the shared expert's product and every expert's share. -/
theorem kOut_sum (c : Dev nD) (x4 : Vec Ideal S256x512 .bf16) :
    kOut W c x0 x1 x2 x4 (ix2 r h) = k0_pay5 (F := Ideal) x0 x4 (ix2 r h) + ∑ d : Dev nD, ∑ j : Fin 4, share W x0 x1 x2 r h e d j := by
  obtain ⟨w0, w1, w2, w3, w4, w5, w6, w7⟩ := words c
  rw [kOut_steps]
  dsimp only
  rw [highStep_apply W x0 x1 x2 r h e he w7, lowStep_apply W x0 x1 x2 r h e he w5,
    lowStep_apply W x0 x1 x2 r h e he w7, slotStep_apply W x0 x1 x2 r h e he w4,
    highStep_apply W x0 x1 x2 r h e he w6, lowStep_apply W x0 x1 x2 r h e he w6,
    highStep_apply W x0 x1 x2 r h e he w5, slotStep_apply W x0 x1 x2 r h e he w3, slotStep_apply W x0 x1 x2 r h e he w2,
    slotStep_apply W x0 x1 x2 r h e he w1, slotStep_apply W x0 x1 x2 r h e he w0]
  rw [← (owner_bijective c).sum_comp, Fin.sum_univ_eight]
  simp only [Fin.sum_univ_four]
  generalize share W x0 x1 x2 r h e = f
  show _ = _ + (f c 0 + f c 1 + f c 2 + f c 3 + (f (left c) 0 + f (left c) 1 + f (left c) 2 + f (left c) 3)
    + (f (left (across c)) 0 + f (left (across c)) 1 + f (left (across c)) 2 + f (left (across c)) 3)
    + (f (facing c) 0 + f (facing c) 1 + f (facing c) 2 + f (facing c) 3)
    + (f (across c) 0 + f (across c) 1 + f (across c) 2 + f (across c) 3)
    + (f (right c) 0 + f (right c) 1 + f (right c) 2 + f (right c) 3)
    + (f (right (across c)) 0 + f (right (across c)) 1 + f (right (across c)) 2 + f (right (across c)) 3)
    + (f (facing (across c)) 0 + f (facing (across c)) 1 + f (facing (across c)) 2 + f (facing (across c)) 3))
  abel

/-- The body computes `token` of each row, if the token's features and the router's weights are finite. -/
theorem kOut_token (c : Dev nD) (x4 : Vec Ideal S256x512 .bf16) (hx : ∀ k, ∃ a : ℝ, x0 (ix2 r k) = a) (hg : ∀ k e, ∃ a : ℝ, x1 (ix2 k e) = a)
    (d : Dev nD) (j : Fin 4) (hd : expert d j = e) :
    kOut W c x0 x1 x2 x4 (ix2 r h)
      = token (fun k => x0 (ix2 r k)) (fun k e => x1 (ix2 k e)) e (fun k => W d (ix3 j k h)) (fun k => x4 (ix2 k h)) := by
  rw [kOut_sum W x0 x1 x2 r h e he, pay5_apply]
  refine congrArg₂ _ rfl ?_
  have other : ∀ d' j', ¬(d' = d ∧ j' = j) → share W x0 x1 x2 r h e d' j' = 0 := fun d' j' hne =>
    if_neg fun h' => hne (expert_inj (h'.symm.trans hd.symm))
  rw [Finset.sum_eq_single_of_mem d (Finset.mem_univ _) fun d' _ hne => Finset.sum_eq_zero fun j' _ => other d' j' fun h' => hne h'.1,
    Finset.sum_eq_single_of_mem j (Finset.mem_univ _) fun j' _ hne => other d j' fun h' => hne h'.2]
  refine (if_pos hd.symm).trans ?_
  simp only [pay6_apply x0 x1 x2 r _ e he]
  exact prod_scaled (gate_finite hx hg e) _ _

end

end Cert.Moe

end
-- ==== Proof.Ref.lean ====
/-
# The reference, element by element

The reference gathers each token's gate and its expert's weights. With every routing index in range it computes
`token` of each row.
-/
module

public import proofs.«01_k».proof.Proof.Spec
public import proofs.«01_k».proof.Proof.Gen.ReferenceIdeal.Run
public import Idealize.ShloMosaic.Lib.Pointwise
public import Idealize.ShloMosaic.Lib.IdealHost
public import Idealize.ShloMosaic.Lib.ValueIdx
public import Idealize.ShloMosaic.Lib.ReduceAll
public import Idealize.ShloMosaic.Lib.Affine

@[expose] public section

set_option maxRecDepth 16384

noncomputable section

namespace Cert.Moe.Ref

open Cert.ReferenceIdeal Cert.ReferenceIdeal.Gen Cert.ReferenceIdeal.Facts
open Idealize.ShloMosaic
open Idealize.SL.Sem

/-- The gather of each row's own entry. -/
theorem gather_entry {α : Type} (P : S8192x32.Idx → α) (I : IVec S8192x1x1 32) (n : Fin 8192) (e : Fin 32)
    (h : (I (ix3 n 0 0)).toInt.toNat = e.val) :
    Host.gather gather_S8192x32_S8192x1x1_S8192x1_n_1_0_0_1_2_11 P I (ix2 n 0) = P (ix2 n e) := by
  refine congrArg P (funext fun a => Fin.ext ?_)
  match a with
  | ⟨0, _⟩ => exact (Nat.add_zero _).trans (Nat.zero_add n.val)
  | ⟨1, _⟩ =>
    refine (congrArg (fun i => min (I i).toInt.toNat 31) (funext fun b => ?_ : _ = ix3 n 0 0)).trans ?_
    · match b with
      | ⟨0, _⟩ => rfl
      | ⟨1, _⟩ => rfl
      | ⟨2, _⟩ => rfl
    · show min (I (ix3 n 0 0)).toInt.toNat 31 = e.val
      omega

/-- The gather of whole experts. -/
theorem gather_expert {α : Type} (W : S32x256x512.Idx → α) (I : IVec S8192x1 32) (n : Fin 8192) (k : Fin 256) (h : Fin 512) (e : Fin 32)
    (he : (I (ix2 n 0)).toInt.toNat = e.val) :
    Host.gather gather_S32x256x512_S8192x1_S8192x256x512_12_0_n_n_0_1_1256512 W I (ix3 n k h) = W (ix3 e k h) := by
  refine congrArg W (funext fun a => Fin.ext ?_)
  match a with
  | ⟨0, _⟩ =>
    refine (congrArg (fun i => min (I i).toInt.toNat 31) (funext fun b => ?_ : _ = ix2 n 0)).trans ?_
    · match b with
      | ⟨0, _⟩ => rfl
      | ⟨1, _⟩ => rfl
    · show min (I (ix2 n 0)).toInt.toNat 31 = e.val
      omega
  | ⟨1, _⟩ => exact Nat.zero_add k.val
  | ⟨2, _⟩ => exact Nat.zero_add h.val

/-- An index in range is not wrapped, -/
theorem unwrapped (e : Fin 32) :
    Scalar.select (IntOp.cmpi .slt (BitVec.ofNat 32 e.val) 0#32) (IntOp.addi (BitVec.ofNat 32 e.val) 32#32) (BitVec.ofNat 32 e.val)
      = BitVec.ofNat 32 e.val := by
  revert e; decide
/-- passes the range test, -/
theorem inRange (e : Fin 32) :
    IntOp.andi (IntOp.cmpi .sge (BitVec.ofNat 32 e.val) 0#32) (IntOp.cmpi .sle (BitVec.ofNat 32 e.val) 31#32) = 1#1 := by
  revert e; decide
/-- and names its expert. -/
theorem named (e : Fin 32) : (BitVec.ofNat 32 e.val).toInt.toNat = e.val := by
  revert e; decide

variable (m : (ℓ : Loc nD τ sig) → Buf (Elt Ideal) ℓ) (ρ : Dev nD → PrngReg)

/-- The arguments on device `c`, as launched. -/
abbrev x (c : Dev nD) : FVec Ideal S8192x256 .bf16 := m ((c.tc : Thread nD τ).loc main_arg0)
abbrev g (c : Dev nD) : FVec Ideal S256x32 .bf16 := m ((c.tc : Thread nD τ).loc main_arg1)
abbrev idx (c : Dev nD) : IVec S8192x1 32 := m ((c.tc : Thread nD τ).loc main_arg2)
abbrev w (c : Dev nD) : FVec Ideal S32x256x512 .bf16 := m ((c.tc : Thread nD τ).loc main_arg3)
abbrev s (c : Dev nD) : FVec Ideal S256x512 .bf16 := m ((c.tc : Thread nD τ).loc main_arg4)

/-- What the reference leaves in its result. -/
def IsOut (v : FVec Ideal S8192x512 .f32) (e : Fin 8192 → Fin 32) (c : Dev nD) : Prop :=
  ∀ (n : Fin 8192) (h : Fin 512),
    v (ix2 n h) = token (fun k => x m c (ix2 n k)) (fun k e => g m c (ix2 k e)) (e n) (fun k => w m c (ix3 (e n) k h)) (fun k => s m c (ix2 k h))

set_option maxHeartbeats 4000000 in
/-- From zeroed semaphores the reference ends with `token` of each row, if the routing indices name experts, and with
    its arguments unchanged. -/
theorem run_read (e : Fin 8192 → Fin 32) (he : ∀ c n, (idx m c) (ix2 n 0) = BitVec.ofNat 32 (e n).val) :
    θ_run defs (onTc (τ := τ) (main (F := Ideal))) ⟨m, fun _ => 0, ρ⟩ fun r => ∀ c : Dev nD,
      IsOut m (r.2.mem ((c.tc : Thread nD τ).loc main_v27)) e c
      ∧ r.2.mem ((c.tc : Thread nD τ).loc main_arg0) = x m c
      ∧ r.2.mem ((c.tc : Thread nD τ).loc main_arg1) = g m c
      ∧ r.2.mem ((c.tc : Thread nD τ).loc main_arg2) = idx m c
      ∧ r.2.mem ((c.tc : Thread nD τ).loc main_arg3) = w m c
      ∧ r.2.mem ((c.tc : Thread nD τ).loc main_arg4) = s m c := by
  refine (θ_run defs _ _).mono (fun r h c => ⟨?_, (h c).2⟩) (Value.run (F := Ideal) m ρ)
  intro n j
  rw [(h c).1]
  clear h
  pointwise []
  refine congrArg₂ (· + ·) rfl (congrArg₂ (· * ·) ?_ (Finset.sum_congr rfl fun k _ =>
    congrArg₂ (· * ·) rfl ((gather_expert _ _ n k j (e n) ?_).trans rfl)))
  · rw [gather_entry _ _ n (e n) (by pointwise [he, unwrapped, named])]
    simp only [he, unwrapped, inRange]
    rw [show Finset.fold IntOp.andi 1#1 (fun _ => (1#1 : BitVec 1)) Finset.univ = 1#1 from
      (Finset.fold_const _ (by decide)).trans (by split <;> rfl)]
    refine (if_pos rfl).trans ?_
    pointwise []
    rfl
  · pointwise [he, unwrapped, named]

end Cert.Moe.Ref

end
-- ==== Proof.Algebraic.lean ====
/-
# The kernel computes the reference's result

Row `r` of device `c` is row `1024 c + r` of the whole arrays, and expert `j` of device `d` is expert `4 d + j`.
Read that way, each row of a device's result is the reference's.
-/
module

public import proofs.«01_k».proof.Proof.Frames
public import proofs.«01_k».proof.Proof.Value
public import proofs.«01_k».proof.Proof.Ref
public import Idealize.ShloMosaic.Lib.LayoutAt

@[expose] public section

set_option maxRecDepth 16384

noncomputable section

namespace Cert.Moe

open Idealize.ShloMosaic
open Idealize.SL.Sem

/-! ## The precondition, element by element -/

section
variable [hP : Cert.Pre_finite_in_range_KernelIdeal.Facts]

/-- A magnitude below infinity is a number's. -/
theorem finite_of_lt {a : Ideal .bf16} (h : BitVec.ofBool (decide (FloatOps.absf a < Ideal.ofBits .bf16 0x7F80#16)) = 1#1) : ∃ r : ℝ, a = (r : EReal) := by
  rw [show Ideal.ofBits .bf16 0x7F80#16 = (⊤ : EReal) from by simp [Ideal.ofBits, Ideal.ieee]] at h
  have h : FloatOps.absf a < (⊤ : EReal) := by by_contra h'; rw [decide_eq_false h'] at h; exact absurd h (by decide)
  change max (a : EReal) (-a) < ⊤ at h
  obtain ⟨h1, h2⟩ := max_lt_iff.1 h
  exact ⟨EReal.toReal a, (EReal.coe_toReal h1.ne fun h' => h2.ne (by rw [h', EReal.neg_bot])).symm⟩

/-- A word that passes the range test names an expert. -/
theorem expert_of_range {i : BitVec 32} (h0 : IntOp.cmpi .sge i 0#32 = 1#1) (h1 : IntOp.cmpi .sle i 31#32 = 1#1) :
    ∃ e : Fin 32, i = BitVec.ofNat 32 e.val := by
  rw [IntOp.cmpi_sge, show (0#32 : BitVec 32).toInt = 0 from by decide] at h0
  rw [IntOp.cmpi_sle, show (31#32 : BitVec 32).toInt = 31 from by decide] at h1
  have ht := BitVec.toInt_eq_toNat_cond i
  have hl := i.isLt
  exact ⟨⟨i.toNat, by split at ht <;> omega⟩, ((BitVec.ofNat_toNat 32 i).trans (BitVec.setWidth_eq i)).symm⟩

/-- What the precondition says of a device's blocks: finite features and router weights, and routing indices that name
    experts. -/
theorem pre_read {x : FVec Ideal ⟨2, ![1024, 256]⟩ .bf16} {g : FVec Ideal ⟨2, ![256, 32]⟩ .bf16} {i : IVec ⟨2, ![1024, 1]⟩ 32}
    {w : FVec Ideal ⟨3, ![4, 256, 512]⟩ .bf16} {s : FVec Ideal ⟨2, ![256, 512]⟩ .bf16}
    (h : Cert.Pre_finite_in_range_KernelIdeal.fn (F := Ideal) x g i w s = fun _ => 1#1) :
    (∀ r k, ∃ a : ℝ, x (ix2 r k) = a) ∧ (∀ k e, ∃ a : ℝ, g (ix2 k e) = a) ∧ ∀ r, ∃ e : Fin 32, i (ix2 r 0) = BitVec.ofNat 32 e.val := by
  have key : ∀ (r : Fin 1024) (k : Fin 256) (e : Fin 32), _ := fun r k e => congrFun h (ix3 r k e)
  pointwise [Cert.Pre_finite_in_range_KernelIdeal.fn] at key
  have and3 := fun r k e => IntOp.andi_eq_one.1 (key r k e)
  refine ⟨fun r k => finite_of_lt (IntOp.andi_eq_one.1 (and3 r k 0).1).1, fun k e => finite_of_lt (and3 0 k e).2, fun r => ?_⟩
  obtain ⟨h0, h1⟩ := IntOp.andi_eq_one.1 (IntOp.andi_eq_one.1 (and3 r 0 0).1).2
  exact expert_of_range h0 h1

end

/-! ## Blocks of the whole arrays -/

/-- The place of device `c`'s row `r` among all rows. -/
def row (c : Fin 8) (r : Fin 1024) : Fin 8192 := ⟨1024 * c.val + r.val, by omega⟩

section
variable {α : Type} (c : Fin 8)

/-- A device's token features, -/
theorem block_x (X : (⟨2, ![8192, 256]⟩ : Shape).Idx → α) (r : Fin 1024) (k : Fin 256) :
    Layout.block ⟨2, ![1024, 256]⟩ ⟨2, ![8192, 256]⟩ 0 8 c X (by decide) (ix2 r k) = X (ix2 (row c r) k) := by
  unfold row; simp only [Layout.block_apply]; shard_ext
/-- its routing indices, -/
theorem block_idx (X : (⟨2, ![8192, 1]⟩ : Shape).Idx → α) (r : Fin 1024) :
    Layout.block ⟨2, ![1024, 1]⟩ ⟨2, ![8192, 1]⟩ 0 8 c X (by decide) (ix2 r 0) = X (ix2 (row c r) 0) := by
  unfold row; simp only [Layout.block_apply]; shard_ext
/-- its experts -/
theorem block_w (X : (⟨3, ![32, 256, 512]⟩ : Shape).Idx → α) (j : Fin 4) (k : Fin 256) (h : Fin 512) :
    Layout.block ⟨3, ![4, 256, 512]⟩ ⟨3, ![32, 256, 512]⟩ 0 8 c X (by decide) (ix3 j k h) = X (ix3 (expert c j) k h) := by
  unfold expert; simp only [Layout.block_apply]; shard_ext
/-- and its result. -/
theorem block_out (X : (⟨2, ![8192, 512]⟩ : Shape).Idx → α) (r : Fin 1024) (h : Fin 512) :
    Layout.block ⟨2, ![1024, 512]⟩ ⟨2, ![8192, 512]⟩ 0 8 c X (by decide) (ix2 r h) = X (ix2 (row c r) h) := by
  unfold row; simp only [Layout.block_apply]; shard_ext
end

/-- Every row is one of one device's. -/
theorem row_cover (n : Fin 8192) : ∃ c r, row c r = n :=
  ⟨⟨n.val / 1024, by omega⟩, ⟨n.val % 1024, by omega⟩, Fin.ext (by simp only [row]; omega)⟩

/-- An array of two axes is known by its elements. -/
theorem ext2 {α : Type} {a b : ℕ} {f f' : (⟨2, ![a, b]⟩ : Shape).Idx → α} (h : ∀ i j, f (ix2 i j) = f' (ix2 i j)) : f = f' := by
  funext i
  rw [show i = ix2 (i 0) (i 1) from by funext a; fin_cases a <;> rfl]
  exact h _ _

section
variable [hP : Cert.Pre_finite_in_range_KernelIdeal.Facts]

set_option maxHeartbeats 4000000 in
/-- The kernel on eight devices and the reference on one compute the same array. -/
theorem algebraic : Cert.algebraic_KernelIdeal_ReferenceIdeal_pre_finite_in_range_KernelIdeal
    (hKernelIdeal := Cert.KernelIdeal.Gen.facts) (hReferenceIdeal := Cert.ReferenceIdeal.Gen.facts) := by
  intro m g m' g' hpre hrel
  have hfin := fun c => pre_read (hpre c)
  have hidx : ∀ n : Fin 8192, ∃ e : Fin 32, Ref.idx m' 0 (ix2 n 0) = BitVec.ofNat 32 e.val := fun n => by
    obtain ⟨c, r, rfl⟩ := row_cover n
    obtain ⟨e, he⟩ := (hfin c).2.2 r
    exact ⟨e, ((block_idx c (Ref.idx m' 0) r).symm.trans (congrFun (hrel c).2.2.1.symm _)).trans he⟩
  choose e he using hidx
  refine ⟨fun i => token (fun k => Ref.x m' 0 (ix2 (i 0) k)) (fun k e => Ref.g m' 0 (ix2 k e)) (e (i 0))
    (fun k => Ref.w m' 0 (ix3 (e (i 0)) k (i 1))) (fun k => Ref.s m' 0 (ix2 k (i 1))), ?_, ?_⟩
  · refine (θ_run Cert.KernelIdeal.defs _ _).mono (fun r h c => ⟨?_, (h.1 c).2⟩) (run_read (F := Ideal) m g)
    rw [(h.1 c).1]
    refine ext2 fun i j => ?_
    rw [block_out c _ i j]
    obtain ⟨d, k, hd⟩ := expert_cover (e (row c i))
    have hi : argIdx m c (ix2 i 0) = BitVec.ofNat 32 (e (row c i)).val :=
      ((congrFun (hrel c).2.2.1 _).trans (block_idx c (Ref.idx m' 0) i)).trans (he _)
    rw [kOut_token (argW m) (argX m c) (argGate m c) (argIdx m c) i j _ hi c (argShared m c) ((hfin c).1 i) (hfin c).2.1 d k hd]
    have hx : (fun k => argX m c (ix2 i k)) = fun k => Ref.x m' 0 (ix2 (row c i) k) := funext fun k =>
      (congrFun (hrel c).1 _).trans (block_x c (Ref.x m' 0) i k)
    have hw : (fun k' => argW m d (ix3 k k' j)) = fun k' => Ref.w m' 0 (ix3 (e (row c i)) k' j) := funext fun k' =>
      ((congrFun (hrel d).2.2.2.1 _).trans (block_w d (Ref.w m' 0) k k' j)).trans (by rw [hd])
    rw [hx, hw, show argGate m c = Ref.g m' 0 from (hrel c).2.1, show argShared m c = Ref.s m' 0 from (hrel c).2.2.2.2]
    rfl
  · refine (θ_run Cert.ReferenceIdeal.defs _ _).mono (fun r h => ⟨ext2 fun n j => (h 0).1 n j, (h 0).2⟩)
      (Ref.run_read m' g' e fun c n => ?_)
    obtain rfl : c = 0 := Subsingleton.elim _ _
    exact he n

end

end Cert.Moe

end
-- ==== Proof.lean ====
/-
# The certificate

The claims, each from the module that proves it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic

/-- Everything claimed. -/
theorem claim : Cert.Claim :=
  haveI := Cert.Moe.pre_kernel_facts
  ⟨Cert.Kernel.Gen.facts, Cert.KernelIdeal.Gen.facts, Cert.ReferenceIdeal.Gen.facts, Cert.Moe.pre_kernel_facts, Cert.Moe.pre_reference_facts,
    Cert.Moe.frame_kernel, Cert.Moe.frame_kernelIdeal, fun m g _ => Cert.Moe.frame_kernelIdeal m g True.intro,
    Cert.Moe.frame_reference, fun m g _ => Cert.Moe.frame_reference m g True.intro, trivial, Cert.Moe.algebraic⟩

end Cert.Proof

end
